-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "bins_per_radian" .f32 0x3FB758B4#32 (((9 / 2) * Real.pi⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x3x384x384 : Shape := ⟨4, ![64, 3, 384, 384]⟩
abbrev S_ : Shape := ⟨0, ![]⟩

class Facts : Prop where
  bcast_S_S64x3x384x384 : S_.BroadcastsInDim S64x3x384x384 (![] : Fin 0 → Fin S64x3x384x384.rank)

variable [Facts]

def fn {F : FTy → Type} [FloatOps F] (main_arg0 : FVec F S64x3x384x384 .f32) : IVec S64x3x384x384 1 :=
  let main_v0 : FVec F S64x3x384x384 .f32 := Host.absf main_arg0
  let main_cst : FVec F S_ .f32 := constant S_ .f32 0x7F800000#32
  let main_v1 : FVec F S64x3x384x384 .f32 := broadcastInDim S64x3x384x384 ![] bcast_S_S64x3x384x384 main_cst
  let main_v2 : IVec S64x3x384x384 1 := cmpf .olt main_v0 main_v1
  main_v2
-- ==== Kernel.lean ====
abbrev S64x3x384x384 : Shape := ⟨4, ![64, 3, 384, 384]⟩
abbrev S64x48x432 : Shape := ⟨3, ![64, 48, 432]⟩
abbrev S8x3x384x384 : Shape := ⟨4, ![8, 3, 384, 384]⟩
abbrev S8x48x432 : Shape := ⟨3, ![8, 48, 432]⟩
abbrev S384x48 : Shape := ⟨2, ![384, 48]⟩
abbrev S48x384 : Shape := ⟨2, ![48, 384]⟩
abbrev S432x432 : Shape := ⟨2, ![432, 432]⟩
abbrev S1x3x384x384 : Shape := ⟨4, ![1, 3, 384, 384]⟩
abbrev S3x384x384 : Shape := ⟨3, ![3, 384, 384]⟩
abbrev S1x384x384 : Shape := ⟨3, ![1, 384, 384]⟩
abbrev S384x384 : Shape := ⟨2, ![384, 384]⟩
abbrev S1x384 : Shape := ⟨2, ![1, 384]⟩
abbrev S384x1 : Shape := ⟨2, ![384, 1]⟩
abbrev S384x383 : Shape := ⟨2, ![384, 383]⟩
abbrev S383x384 : Shape := ⟨2, ![383, 384]⟩
abbrev S384x432 : Shape := ⟨2, ![384, 432]⟩
abbrev S48x432 : Shape := ⟨2, ![48, 432]⟩
abbrev S1x48x432 : Shape := ⟨3, ![1, 48, 432]⟩
abbrev S1 : Shape := ⟨1, ![1]⟩
abbrev S1x1x1 : Shape := ⟨3, ![1, 1, 1]⟩
abbrev S64x20736 : Shape := ⟨2, ![64, 20736]⟩

abbrev nBuf : Space → Nat
  | .hbm => 3
  | .vmem => 4
  | .smem => 0
  | _ => 0

abbrev bufTy : (tb : Table) → Fin (tcTables nBuf tb) → BufTy
  | .hbm, ⟨0, _⟩ => ⟨S64x3x384x384, .f32⟩
  | .hbm, ⟨1, _⟩ => ⟨S64x48x432, .f32⟩
  | .hbm, ⟨2, _⟩ => ⟨S64x20736, .f32⟩
  | .local _ .vmem, ⟨0, _⟩ => ⟨S8x3x384x384, .f32⟩
  | .local _ .vmem, ⟨1, _⟩ => ⟨S8x3x384x384, .f32⟩
  | .local _ .vmem, ⟨2, _⟩ => ⟨S8x48x432, .f32⟩
  | .local _ .vmem, ⟨3, _⟩ => ⟨S8x48x432, .f32⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x48x432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "bins_per_radian" => some (((9 / 2) * Real.pi⁻¹ : ℝ) : EReal)
  | _ => none
-- ==== ReferenceIdeal.lean ====
abbrev S64x3x384x384 : Shape := ⟨4, ![64, 3, 384, 384]⟩
abbrev S64x1x384x384 : Shape := ⟨4, ![64, 1, 384, 384]⟩
abbrev S_ : Shape := ⟨0, ![]⟩
abbrev S64x1x386x386 : Shape := ⟨4, ![64, 1, 386, 386]⟩
abbrev S64x48x8x48x8 : Shape := ⟨5, ![64, 48, 8, 48, 8]⟩
abbrev S64x48x48x8x8 : Shape := ⟨5, ![64, 48, 48, 8, 8]⟩
abbrev S147456x64 : Shape := ⟨2, ![147456, 64]⟩
abbrev S147456x64x1 : Shape := ⟨3, ![147456, 64, 1]⟩
abbrev S9 : Shape := ⟨1, ![9]⟩
abbrev S1x1x9 : Shape := ⟨3, ![1, 1, 9]⟩
abbrev S147456x64x9 : Shape := ⟨3, ![147456, 64, 9]⟩
abbrev S147456x9 : Shape := ⟨2, ![147456, 9]⟩
abbrev S64x20736 : Shape := ⟨2, ![64, 20736]⟩
abbrev S64 : Shape := ⟨1, ![64]⟩
abbrev S64x1 : Shape := ⟨2, ![64, 1]⟩

abbrev nBuf : Space → Nat
  | .hbm => 206
  | .vmem => 0
  | .smem => 0
  | _ => 0

abbrev hbmTy0_0 (i : Nat) : BufTy := match i % 128 with
  | 0 => ⟨S64x3x384x384, .f32⟩
  | 1 => ⟨S64x1x384x384, .f32⟩
  | 2 => ⟨S_, .f32⟩
  | 3 => ⟨S64x1x384x384, .f32⟩
  | 4 => ⟨S64x1x384x384, .f32⟩
  | 5 => ⟨S64x1x384x384, .f32⟩
  | 6 => ⟨S_, .f32⟩
  | 7 => ⟨S64x1x384x384, .f32⟩
  | 8 => ⟨S64x1x384x384, .f32⟩
  | 9 => ⟨S64x1x384x384, .f32⟩
  | 10 => ⟨S64x1x384x384, .f32⟩
  | 11 => ⟨S_, .f32⟩
  | 12 => ⟨S64x1x384x384, .f32⟩
  | 13 => ⟨S64x1x384x384, .f32⟩
  | 14 => ⟨S64x1x384x384, .f32⟩
  | 15 => ⟨S_, .i32⟩
  | 16 => ⟨S_, .f32⟩
  | 17 => ⟨S64x1x386x386, .f32⟩
  | 18 => ⟨S64x1x384x384, .f32⟩
  | 19 => ⟨S_, .f32⟩
  | 20 => ⟨S64x1x384x384, .f32⟩
  | 21 => ⟨S64x1x384x384, .f32⟩
  | 22 => ⟨S_, .f32⟩
  | 23 => ⟨S64x1x384x384, .f32⟩
  | 24 => ⟨S64x1x384x384, .f32⟩
  | 25 => ⟨S64x1x384x384, .f32⟩
  | 26 => ⟨S_, .f32⟩
  | 27 => ⟨S64x1x384x384, .f32⟩
  | 28 => ⟨S64x1x384x384, .f32⟩
  | 29 => ⟨S64x1x384x384, .f32⟩
  | 30 => ⟨S64x1x384x384, .f32⟩
  | 31 => ⟨S_, .f32⟩
  | 32 => ⟨S64x1x384x384, .f32⟩
  | 33 => ⟨S64x1x384x384, .f32⟩
  | 34 => ⟨S64x1x384x384, .f32⟩
  | 35 => ⟨S64x1x384x384, .f32⟩
  | 36 => ⟨S_, .f32⟩
  | 37 => ⟨S64x1x384x384, .f32⟩
  | 38 => ⟨S64x1x384x384, .f32⟩
  | 39 => ⟨S64x1x384x384, .f32⟩
  | 40 => ⟨S64x1x384x384, .f32⟩
  | 41 => ⟨S_, .f32⟩
  | 42 => ⟨S64x1x384x384, .f32⟩
  | 43 => ⟨S64x1x384x384, .f32⟩
  | 44 => ⟨S64x1x384x384, .f32⟩
  | 45 => ⟨S64x1x384x384, .f32⟩
  | 46 => ⟨S_, .f32⟩
  | 47 => ⟨S64x1x384x384, .f32⟩
  | 48 => ⟨S64x1x384x384, .f32⟩
  | 49 => ⟨S64x1x384x384, .f32⟩
  | 50 => ⟨S64x1x384x384, .f32⟩
  | 51 => ⟨S_, .f32⟩
  | 52 => ⟨S64x1x384x384, .f32⟩
  | 53 => ⟨S64x1x384x384, .f32⟩
  | 54 => ⟨S64x1x384x384, .f32⟩
  | 55 => ⟨S64x1x384x384, .f32⟩
  | 56 => ⟨S_, .f32⟩
  | 57 => ⟨S64x1x384x384, .f32⟩
  | 58 => ⟨S64x1x384x384, .f32⟩
  | 59 => ⟨S64x1x384x384, .f32⟩
  | 60 => ⟨S64x1x384x384, .f32⟩
  | 61 => ⟨S_, .f32⟩
  | 62 => ⟨S64x1x384x384, .f32⟩
  | 63 => ⟨S64x1x384x384, .f32⟩
  | 64 => ⟨S64x1x384x384, .f32⟩
  | 65 => ⟨S_, .i32⟩
  | 66 => ⟨S_, .f32⟩
  | 67 => ⟨S64x1x386x386, .f32⟩
  | 68 => ⟨S64x1x384x384, .f32⟩
  | 69 => ⟨S_, .f32⟩
  | 70 => ⟨S64x1x384x384, .f32⟩
  | 71 => ⟨S64x1x384x384, .f32⟩
  | 72 => ⟨S_, .f32⟩
  | 73 => ⟨S64x1x384x384, .f32⟩
  | 74 => ⟨S64x1x384x384, .f32⟩
  | 75 => ⟨S64x1x384x384, .f32⟩
  | 76 => ⟨S_, .f32⟩
  | 77 => ⟨S64x1x384x384, .f32⟩
  | 78 => ⟨S64x1x384x384, .f32⟩
  | 79 => ⟨S64x1x384x384, .f32⟩
  | 80 => ⟨S64x1x384x384, .f32⟩
  | 81 => ⟨S_, .f32⟩
  | 82 => ⟨S64x1x384x384, .f32⟩
  | 83 => ⟨S64x1x384x384, .f32⟩
  | 84 => ⟨S64x1x384x384, .f32⟩
  | 85 => ⟨S64x1x384x384, .f32⟩
  | 86 => ⟨S_, .f32⟩
  | 87 => ⟨S64x1x384x384, .f32⟩
  | 88 => ⟨S64x1x384x384, .f32⟩
  | 89 => ⟨S64x1x384x384, .f32⟩
  | 90 => ⟨S64x1x384x384, .f32⟩
  | 91 => ⟨S_, .f32⟩
  | 92 => ⟨S64x1x384x384, .f32⟩
  | 93 => ⟨S64x1x384x384, .f32⟩
  | 94 => ⟨S64x1x384x384, .f32⟩
  | 95 => ⟨S64x1x384x384, .f32⟩
  | 96 => ⟨S_, .f32⟩
  | 97 => ⟨S64x1x384x384, .f32⟩
  | 98 => ⟨S64x1x384x384, .f32⟩
  | 99 => ⟨S64x1x384x384, .f32⟩
  | 100 => ⟨S64x1x384x384, .f32⟩
  | 101 => ⟨S_, .f32⟩
  | 102 => ⟨S64x1x384x384, .f32⟩
  | 103 => ⟨S64x1x384x384, .f32⟩
  | 104 => ⟨S64x1x384x384, .f32⟩
  | 105 => ⟨S64x1x384x384, .f32⟩
  | 106 => ⟨S_, .f32⟩
  | 107 => ⟨S64x1x384x384, .f32⟩
  | 108 => ⟨S64x1x384x384, .f32⟩
  | 109 => ⟨S64x1x384x384, .f32⟩
  | 110 => ⟨S64x1x384x384, .f32⟩
  | 111 => ⟨S_, .f32⟩
  | 112 => ⟨S64x1x384x384, .f32⟩
  | 113 => ⟨S64x1x384x384, .f32⟩
  | 114 => ⟨S64x1x384x384, .f32⟩
  | 115 => ⟨S64x1x384x384, .f32⟩
  | 116 => ⟨S64x1x384x384, .f32⟩
  | 117 => ⟨S64x1x384x384, .f32⟩
  | 118 => ⟨S_, .f32⟩
  | 119 => ⟨S64x1x384x384, .f32⟩
  | 120 => ⟨S64x1x384x384, .f32⟩
  | 121 => ⟨S64x1x384x384, .f32⟩
  | 122 => ⟨S_, .f32⟩
  | 123 => ⟨S_, .f32⟩
  | 124 => ⟨S_, .f32⟩
  | 125 => ⟨S64x1x384x384, .f32⟩
  | 126 => ⟨S_, .f32⟩
  | 127 => ⟨S_, .f32⟩
  | _ => ⟨S64x3x384x384, .f32⟩

abbrev hbmTy0_1 (i : Nat) : BufTy := match i % 128 with
  | 0 => ⟨S_, .f32⟩
  | 1 => ⟨S64x1x384x384, .f32⟩
  | 2 => ⟨S64x1x384x384, .f32⟩
  | 3 => ⟨S_, .f32⟩
  | 4 => ⟨S64x1x384x384, .f32⟩
  | 5 => ⟨S64x1x384x384, .i1⟩
  | 6 => ⟨S_, .f32⟩
  | 7 => ⟨S64x1x384x384, .f32⟩
  | 8 => ⟨S64x1x384x384, .i1⟩
  | 9 => ⟨S_, .f32⟩
  | 10 => ⟨S_, .i1⟩
  | 11 => ⟨S64x1x384x384, .i1⟩
  | 12 => ⟨S64x1x384x384, .i1⟩
  | 13 => ⟨S64x1x384x384, .i1⟩
  | 14 => ⟨S64x1x384x384, .f32⟩
  | 15 => ⟨S64x1x384x384, .f32⟩
  | 16 => ⟨S64x1x384x384, .f32⟩
  | 17 => ⟨S64x48x8x48x8, .f32⟩
  | 18 => ⟨S64x48x48x8x8, .f32⟩
  | 19 => ⟨S147456x64, .f32⟩
  | 20 => ⟨S64x48x8x48x8, .f32⟩
  | 21 => ⟨S64x48x48x8x8, .f32⟩
  | 22 => ⟨S147456x64, .f32⟩
  | 23 => ⟨S_, .f32⟩
  | 24 => ⟨S_, .f32⟩
  | 25 => ⟨S_, .f32⟩
  | 26 => ⟨S_, .f32⟩
  | 27 => ⟨S_, .f32⟩
  | 28 => ⟨S147456x64, .f32⟩
  | 29 => ⟨S147456x64, .f32⟩
  | 30 => ⟨S147456x64, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S147456x64, .i32⟩
  | 38 => ⟨S147456x64, .i32⟩
  | 39 => ⟨S_, .i32⟩
  | 40 => ⟨S147456x64, .i32⟩
  | 41 => ⟨S147456x64, .i1⟩
  | 42 => ⟨S_, .i32⟩
  | 43 => ⟨S147456x64, .i32⟩
  | 44 => ⟨S147456x64, .i1⟩
  | 45 => ⟨S_, .i32⟩
  | 46 => ⟨S_, .i1⟩
  | 47 => ⟨S147456x64, .i1⟩
  | 48 => ⟨S147456x64, .i1⟩
  | 49 => ⟨S147456x64, .i1⟩
  | 50 => ⟨S147456x64, .i32⟩
  | 51 => ⟨S147456x64, .i32⟩
  | 52 => ⟨S147456x64, .i32⟩
  | 53 => ⟨S147456x64x1, .i32⟩
  | 54 => ⟨S9, .i32⟩
  | 55 => ⟨S1x1x9, .i32⟩
  | 56 => ⟨S147456x64x9, .i32⟩
  | 57 => ⟨S147456x64x9, .i32⟩
  | 58 => ⟨S147456x64x9, .i1⟩
  | 59 => ⟨S147456x64x1, .f32⟩
  | 60 => ⟨S_, .f32⟩
  | 61 => ⟨S_, .f32⟩
  | 62 => ⟨S147456x64x9, .f32⟩
  | 63 => ⟨S147456x64x9, .f32⟩
  | 64 => ⟨S147456x64x9, .f32⟩
  | 65 => ⟨S_, .f32⟩
  | 66 => ⟨S147456x9, .f32⟩
  | 67 => ⟨S64x20736, .f32⟩
  | 68 => ⟨S64x20736, .f32⟩
  | 69 => ⟨S_, .f32⟩
  | 70 => ⟨S64, .f32⟩
  | 71 => ⟨S64x1, .f32⟩
  | 72 => ⟨S64x1, .f32⟩
  | 73 => ⟨S_, .f32⟩
  | 74 => ⟨S64x1, .f32⟩
  | 75 => ⟨S64x1, .f32⟩
  | 76 => ⟨S64x20736, .f32⟩
  | 77 => ⟨S64x20736, .f32⟩
  | _ => ⟨S64x3x384x384, .f32⟩

abbrev hbmTy (i : Nat) : BufTy := match i / 128 with
  | 0 => hbmTy0_0 i
  | 1 => hbmTy0_1 i
  | _ => ⟨S64x3x384x384, .f32⟩

abbrev bufTy : (tb : Table) → Fin (tcTables nBuf tb) → BufTy
  | .hbm, ⟨i, _⟩ => hbmTy i
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_12 : Ref sig .tc := ⟨.hbm, 65, rfl⟩
abbrev main_call1_v0 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_21 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_22 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_cst_25 : Ref sig .tc := ⟨.hbm, 123, rfl⟩
abbrev main_v93 : Ref sig .tc := ⟨.hbm, 124, rfl⟩
abbrev main_v94 : Ref sig .tc := ⟨.hbm, 125, rfl⟩
abbrev main_cst_26 : Ref sig .tc := ⟨.hbm, 126, rfl⟩
abbrev main_v95 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_cst : Ref sig .tc := ⟨.hbm, 131, rfl⟩
abbrev main_call2_v3 : Ref sig .tc := ⟨.hbm, 132, rfl⟩
abbrev main_call2_v4 : Ref sig .tc := ⟨.hbm, 133, rfl⟩
abbrev main_call2_cst_0 : Ref sig .tc := ⟨.hbm, 134, rfl⟩
abbrev main_call2_v5 : Ref sig .tc := ⟨.hbm, 135, rfl⟩
abbrev main_call2_v6 : Ref sig .tc := ⟨.hbm, 136, rfl⟩
abbrev main_call2_cst_1 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_27 : Ref sig .tc := ⟨.hbm, 151, rfl⟩
abbrev main_v103 : Ref sig .tc := ⟨.hbm, 152, rfl⟩
abbrev main_cst_28 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_29 : Ref sig .tc := ⟨.hbm, 159, rfl⟩
abbrev main_call3_v0 : Ref sig .tc := ⟨.hbm, 160, rfl⟩
abbrev main_call3_c : Ref sig .tc := ⟨.hbm, 161, rfl⟩
abbrev main_call3_v1 : Ref sig .tc := ⟨.hbm, 162, rfl⟩
abbrev main_call3_c_0 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_c_1 : Ref sig .tc := ⟨.hbm, 167, rfl⟩
abbrev main_call3_v5 : Ref sig .tc := ⟨.hbm, 168, rfl⟩
abbrev main_call3_v6 : Ref sig .tc := ⟨.hbm, 169, rfl⟩
abbrev main_call3_c_2 : Ref sig .tc := ⟨.hbm, 170, rfl⟩
abbrev main_call3_v7 : Ref sig .tc := ⟨.hbm, 171, rfl⟩
abbrev main_call3_v8 : Ref sig .tc := ⟨.hbm, 172, rfl⟩
abbrev main_call3_c_3 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_v12 : Ref sig .tc := ⟨.hbm, 177, rfl⟩
abbrev main_call3_v13 : Ref sig .tc := ⟨.hbm, 178, rfl⟩
abbrev main_call3_v14 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_30 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_v117 : Ref sig .tc := ⟨.hbm, 192, rfl⟩
abbrev main_cst_31 : Ref sig .tc := ⟨.hbm, 193, rfl⟩
abbrev main_v118 : Ref sig .tc := ⟨.hbm, 194, rfl⟩
abbrev main_v119 : Ref sig .tc := ⟨.hbm, 195, rfl⟩
abbrev main_call5_v0 : Ref sig .tc := ⟨.hbm, 196, rfl⟩
abbrev main_call5_cst : Ref sig .tc := ⟨.hbm, 197, rfl⟩
abbrev main_call5_v1 : Ref sig .tc := ⟨.hbm, 198, rfl⟩
abbrev main_call5_v2 : Ref sig .tc := ⟨.hbm, 199, rfl⟩
abbrev main_v120 : Ref sig .tc := ⟨.hbm, 200, rfl⟩
abbrev main_cst_32 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩

abbrev nD : Nat := 1
abbrev τ : Topo := Topo.v7x

variable {F : FTy → Type} [FloatOps F]
-- ==== Proof.Body.lean ====
/-
  What the kernel's body does with ONE image, written once: `body v` is the normalised histogram of the image `v`
  as the body's own vector operations compute it, in named stages. `out_eq` says that each of the eight stores of a
  grid point is `body` of its own image.
-/
module

public import proofs.«01_k».proof.Proof.Gen.KernelIdeal.Frame
public import Idealize.ShloMosaic.Lib.Pipeline.Value

@[expose] public section

noncomputable section

namespace Cert.Hog.Body

open Cert.KernelIdeal Cert.KernelIdeal.Gen Idealize.ShloMosaic Idealize.ShloMosaic.TcCoe Idealize.SL.Sem

variable {F : FTy → Type} [FloatOps F] [Named F]

/-- The image's grey level: the three channels weighted and added. -/
def gray (v : Vec F S1x3x384x384 .f32) : FVec F S384x384 .f32 :=
  let u : FVec F S3x384x384 .f32 := shapeCast S3x384x384 v shapeCasts_S1x3x384x384_S3x384x384
  extf .f32 (truncf .bf16
    (addf
      (addf
        (mulf (broadcast S384x384 (Scalar.ofBits .f32 0x3E99096C#32))
          (shapeCast S384x384 (extractStridedSlice S1x384x384 ![0, 0, 0] u slices_S3x384x384_o0_0_0_S1x384x384)
            shapeCasts_S1x384x384_S384x384))
        (mulf (broadcast S384x384 (Scalar.ofBits .f32 0x3F1645A2#32))
          (shapeCast S384x384 (extractStridedSlice S1x384x384 ![1, 0, 0] u slices_S3x384x384_o1_0_0_S1x384x384)
            shapeCasts_S1x384x384_S384x384)))
      (mulf (broadcast S384x384 (Scalar.ofBits .f32 0x3DE978D5#32))
        (shapeCast S384x384 (extractStridedSlice S1x384x384 ![2, 0, 0] u slices_S3x384x384_o2_0_0_S1x384x384)
          shapeCasts_S1x384x384_S384x384))) bitsLt_bf16_f32) bitsLt_bf16_f32

/-- The plane with every column replaced by the column to its right, zeros at the right edge. -/
def fromRight (a : FVec F S384x384 .f32) : FVec F S384x384 .f32 :=
  concatenate S384x384 1 [⟨S384x383, extractStridedSlice S384x383 ![0, 1] a slices_S384x384_o0_1_S384x383⟩,
    ⟨S384x1, broadcast S384x1 (Scalar.ofBits .f32 0x00000000#32)⟩] concatenates_S384x383_S384x1_S384x384_d1

/-- The plane with every column replaced by the column to its left, zeros at the left edge. -/
def fromLeft (a : FVec F S384x384 .f32) : FVec F S384x384 .f32 :=
  concatenate S384x384 1 [⟨S384x1, broadcast S384x1 (Scalar.ofBits .f32 0x00000000#32)⟩,
    ⟨S384x383, extractStridedSlice S384x383 ![0, 0] a slices_S384x384_o0_0_S384x383⟩] concatenates_S384x1_S384x383_S384x384_d1

/-- The plane with every row replaced by the row below it, zeros at the lower edge. -/
def fromBelow (a : FVec F S384x384 .f32) : FVec F S384x384 .f32 :=
  concatenate S384x384 0 [⟨S383x384, extractStridedSlice S383x384 ![1, 0] a slices_S384x384_o1_0_S383x384⟩,
    ⟨S1x384, broadcast S1x384 (Scalar.ofBits .f32 0x00000000#32)⟩] concatenates_S383x384_S1x384_S384x384_d0

/-- The plane with every row replaced by the row above it, zeros at the upper edge. -/
def fromAbove (a : FVec F S384x384 .f32) : FVec F S384x384 .f32 :=
  concatenate S384x384 0 [⟨S1x384, broadcast S1x384 (Scalar.ofBits .f32 0x00000000#32)⟩,
    ⟨S383x384, extractStridedSlice S383x384 ![0, 0] a slices_S384x384_o0_0_S383x384⟩] concatenates_S1x384_S383x384_S384x384_d0

/-- Right neighbour minus left neighbour. -/
def diff (g : FVec F S384x384 .f32) : FVec F S384x384 .f32 := subf (fromRight g) (fromLeft g)

/-- Left neighbour, plus twice the pixel, plus right neighbour. -/
def smooth (g : FVec F S384x384 .f32) : FVec F S384x384 .f32 :=
  addf (addf (fromLeft g) (mulf (broadcast S384x384 (Scalar.ofBits .f32 0x40000000#32)) g)) (fromRight g)

/-- The horizontal gradient: `diff` smoothed along the column. -/
def gradX (g : FVec F S384x384 .f32) : FVec F S384x384 .f32 :=
  addf (addf (fromAbove (diff g)) (mulf (broadcast S384x384 (Scalar.ofBits .f32 0x40000000#32)) (diff g)))
    (fromBelow (diff g))

/-- The vertical gradient: `smooth` of the row below minus that of the row above. -/
def gradY (g : FVec F S384x384 .f32) : FVec F S384x384 .f32 := subf (fromBelow (smooth g)) (fromAbove (smooth g))

/-- The number of each pixel's bin, as a float. -/
def bins (gx gy : FVec F S384x384 .f32) : FVec F S384x384 .bf16 :=
  let q : FVec F S384x384 .f32 := floor (mulf (atan2 gy gx) (broadcast S384x384 (Named.named κ "bins_per_radian" 0x3FB758B4#32)))
  truncf .bf16 (select (cmpf .olt q (broadcast S384x384 (Scalar.ofBits .f32 0x00000000#32)))
    (addf q (broadcast S384x384 (Scalar.ofBits .f32 0x41100000#32))) q) bitsLt_bf16_f32

/-- The magnitude of each pixel's gradient. -/
def mags (gx gy : FVec F S384x384 .f32) : FVec F S384x384 .bf16 :=
  sqrt (truncf .bf16 (addf (addf (mulf gx gx) (mulf gy gy)) (broadcast S384x384 (Scalar.ofBits .f32 0x358637BD#32)))
    bitsLt_bf16_f32)

/-- The magnitudes of the pixels whose bin is the one that the word `w` denotes, zero elsewhere. -/
def mask (w : BitVec 16) (q m : FVec F S384x384 .bf16) : FVec F S384x384 .bf16 :=
  select (cmpf .oeq q (broadcast S384x384 (Scalar.ofBits .bf16 w))) m
    (broadcast S384x384 (Scalar.ofBits .bf16 0x0000#16))

/-- The masked magnitudes of one bin, added up along each row in groups of eight columns. -/
def rowSums (w : BitVec 16) (q m : FVec F S384x384 .bf16) : FVec F S384x48 .f32 :=
  matmul dot_S384x384_S384x48_S384x48_1_0_0_1_n_n none (mask w q m) (k0_pay2 (F := F))
    (constant S384x48 .f32 0x00000000#32)

/-- The row sums of the nine bins side by side. -/
def allRows (q m : FVec F S384x384 .bf16) : FVec F S384x432 .f32 :=
  concatenate S384x432 1 [⟨S384x48, rowSums 0x0000#16 q m⟩, ⟨S384x48, rowSums 0x3F80#16 q m⟩,
    ⟨S384x48, rowSums 0x4000#16 q m⟩, ⟨S384x48, rowSums 0x4040#16 q m⟩, ⟨S384x48, rowSums 0x4080#16 q m⟩,
    ⟨S384x48, rowSums 0x40A0#16 q m⟩, ⟨S384x48, rowSums 0x40C0#16 q m⟩, ⟨S384x48, rowSums 0x40E0#16 q m⟩,
    ⟨S384x48, rowSums 0x4100#16 q m⟩]
    concatenates_S384x48_S384x48_S384x48_S384x48_S384x48_S384x48_S384x48_S384x48_S384x48_S384x432_d1

/-- The one-hot matrix that adds up groups of eight rows. -/
def rowGroups : FVec F S48x384 .f32 :=
  k0_pay6 (F := F) (iota .tc S48x384 32 [0] iota_S48x384_d0_w32) (iota .tc S48x384 32 [1] iota_S48x384_d1_w32) 8#32
    k0_pay3 k0_pay4 k0_pay5

/-- The one-hot matrix that reorders the columns from bin-major to cell-major. -/
def reorder : FVec F S432x432 .f32 :=
  k0_pay10 (F := F) (iota .tc S432x432 32 [0] iota_S432x432_d0_w32) (iota .tc S432x432 32 [1] iota_S432x432_d1_w32)
    k0_pay7 48#32 k0_pay8 k0_pay9
    (Scalar.subi (Scalar.extui (Scalar.cmpi .sgt 48#32 0#32)) (Scalar.extui (Scalar.cmpi .slt 48#32 0#32)))

/-- The image's histograms before normalisation: the row sums added up in groups of eight rows, then reordered. -/
def hist (q m : FVec F S384x384 .bf16) : FVec F S48x432 .f32 :=
  matmul dot_S48x432_S432x432_S48x432_1_0_0_1_n_n none
    (matmul dot_S48x384_S384x432_S48x432_1_0_0_1_n_n none (rowGroups (F := F)) (allRows q m)
      (constant S48x432 .f32 0x00000000#32))
    (reorder (F := F)) (constant S48x432 .f32 0x00000000#32)

/-- The histograms divided by the root of the sum of their squares, plus a small constant. -/
def normed (h : FVec F S48x432 .f32) : FVec F S48x432 .f32 :=
  divf h (broadcast S48x432 (Scalar.addf (Scalar.sqrt (extractAt ![0, 0, 0]
    (shapeCast S1x1x1 (multiReduction .add [1, 2] S1 (shapeCast S1x48x432 (mulf h h) shapeCasts_S48x432_S1x48x432)
      0x00000000#32 reduces_S1x48x432_S1 (.inl rfl) rfl) shapeCasts_S1_S1x1x1) inpos_S1x1x1_p0_0_0))
    (Scalar.ofBits .f32 0x358637BD#32)))

/-- The whole of one image. -/
def body (v : Vec F S1x3x384x384 .f32) : FVec F S1x48x432 .f32 :=
  shapeCast S1x48x432
    (normed (hist (bins (gradX (gray v)) (gradY (gray v))) (mags (gradX (gray v)) (gradY (gray v)))))
    shapeCasts_S48x432_S1x48x432

/-- What a grid point stores: eight images, each through `body`. -/
theorem out_eq (x0 : Vec F S8x3x384x384 .f32) : out0_1 x0 =
    View.canon [⟨r0_15, body (View.ld x0 r0_14)⟩, ⟨r0_13, body (View.ld x0 r0_12)⟩, ⟨r0_11, body (View.ld x0 r0_10)⟩,
      ⟨r0_9, body (View.ld x0 r0_8)⟩, ⟨r0_7, body (View.ld x0 r0_6)⟩, ⟨r0_5, body (View.ld x0 r0_4)⟩,
      ⟨r0_3, body (View.ld x0 r0_2)⟩, ⟨r0_1, body (View.ld x0 r0_0)⟩] := rfl

end Cert.Hog.Body

end
-- ==== Proof.Spec.lean ====
/-
  The mathematics both programs are shown to compute: the grey image, its Sobel gradients, the bin and magnitude of
  each pixel, the histogram of each cell of eight by eight pixels, and the histograms of one image divided by their norm.
-/
module

public import Idealize.ShloMosaic.PureOps.Ideal
public import Idealize.ShloMosaic.PureOps.Ideal.Laws

@[expose] public section

noncomputable section

open scoped BigOperators

namespace Cert.Hog

open Idealize.ShloMosaic

/-- A picture: channel, row and column. -/
abbrev Picture := Fin 3 → Fin 384 → Fin 384 → EReal

/-- The grey level, as both programs write it: the three channels with the weights their float words denote. -/
def grayOf (p : Picture) (r s : Fin 384) : EReal :=
  Ideal.ofBits .f32 0x3E99096C#32 * p 0 r s + Ideal.ofBits .f32 0x3F1645A2#32 * p 1 r s
    + Ideal.ofBits .f32 0x3DE978D5#32 * p 2 r s

/-- A plane with a border of one zero on every side: row and column counted from the border. -/
def bordered {α : Type} [Zero α] (g : Fin 384 → Fin 384 → α) (i j : ℕ) : α :=
  if h : (1 ≤ i ∧ i ≤ 384) ∧ 1 ≤ j ∧ j ≤ 384 then g ⟨i - 1, by omega⟩ ⟨j - 1, by omega⟩ else 0

/-- Inside the border it is the plane. -/
theorem bordered_inside {α : Type} [Zero α] (g : Fin 384 → Fin 384 → α) (r s : Fin 384) :
    bordered g (r.val + 1) (s.val + 1) = g r s := by
  unfold bordered
  rw [dif_pos ⟨⟨by omega, by omega⟩, by omega, by omega⟩]
  rfl

/-- On the border it is zero. -/
theorem bordered_outside {α : Type} [Zero α] (g : Fin 384 → Fin 384 → α) (i j : ℕ)
    (h : i = 0 ∨ 384 < i ∨ j = 0 ∨ 384 < j) : bordered g i j = 0 := by
  unfold bordered
  rw [dif_neg (by omega)]

/-- The border of a plane of reals, read among the extended reals. -/
theorem bordered_coe (g : Fin 384 → Fin 384 → ℝ) (i j : ℕ) :
    bordered (fun r s => ((g r s : ℝ) : EReal)) i j = ((bordered g i j : ℝ) : EReal) := by
  unfold bordered
  split <;> simp

/-- The horizontal Sobel gradient at a pixel. -/
def sobelX (g : Fin 384 → Fin 384 → ℝ) (r s : Fin 384) : ℝ :=
  (bordered g r.val (s.val + 2) - bordered g r.val s.val)
    + 2 * (bordered g (r.val + 1) (s.val + 2) - bordered g (r.val + 1) s.val)
    + (bordered g (r.val + 2) (s.val + 2) - bordered g (r.val + 2) s.val)

/-- The vertical Sobel gradient at a pixel. -/
def sobelY (g : Fin 384 → Fin 384 → ℝ) (r s : Fin 384) : ℝ :=
  (bordered g (r.val + 2) s.val + 2 * bordered g (r.val + 2) (s.val + 1) + bordered g (r.val + 2) (s.val + 2))
    - (bordered g r.val s.val + 2 * bordered g r.val (s.val + 1) + bordered g r.val (s.val + 2))

/-- The angle of the vector `(x, y)`, between `-π` and `π`. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The same angle between `0` and `2π`. -/
def turn (y x : ℝ) : ℝ := if angle y x < 0 then angle y x + 2 * Real.pi else angle y x

/-- The bin of a gradient: its angle counted in ninths of a turn. -/
def bin (gx gy : ℝ) : ℤ := ⌊turn gy gx / (2 * Real.pi / 9)⌋

/-- The magnitude of a gradient, with the small constant both programs add under the root. -/
def magnitude (gx gy : ℝ) : EReal :=
  Ideal.sqrt ((gx : EReal) * gx + (gy : EReal) * gy + Ideal.ofBits .f32 0x358637BD#32)

/-- What one pixel adds to bin `b` of its cell. -/
def share (g : Fin 384 → Fin 384 → ℝ) (b : ℕ) (r s : Fin 384) : EReal :=
  if bin (sobelX g r s) (sobelY g r s) = (b : ℤ) then magnitude (sobelX g r s) (sobelY g r s) else 0

/-- Row (or column) `a` of cell `i`. -/
def inCell (i : Fin 48) (a : Fin 8) : Fin 384 := ⟨8 * i.val + a.val, by omega⟩

/-- Bin `b` of the histogram of cell `(i, j)`. -/
def cell (g : Fin 384 → Fin 384 → ℝ) (i j : Fin 48) (b : ℕ) : EReal :=
  ∑ a : Fin 8, ∑ c : Fin 8, share g b (inCell i a) (inCell j c)

/-- The histograms of cell row `i`, laid out cell by cell. -/
def entry (g : Fin 384 → Fin 384 → ℝ) (i : Fin 48) (J : Fin 432) : EReal :=
  cell g i ⟨J.val / 9, by omega⟩ (J.val % 9)

/-- The sum of the squares of an image's histograms. -/
def energy (g : Fin 384 → Fin 384 → ℝ) : EReal := ∑ i : Fin 48, ∑ J : Fin 432, entry g i J * entry g i J

/-- The descriptor: the histograms divided by their norm plus a small constant. -/
def descriptor (g : Fin 384 → Fin 384 → ℝ) (i : Fin 48) (J : Fin 432) : EReal :=
  Ideal.div (entry g i J) (Ideal.sqrt (energy g) + Ideal.ofBits .f32 0x358637BD#32)

end Cert.Hog

end
-- ==== Proof.Consts.lean ====
/-
  The numbers that the programs' float words denote.
-/
module

public import Idealize.ShloMosaic.PureOps.Ideal
public import Idealize.ShloMosaic.PureOps.Ideal.Laws

@[expose] public section

noncomputable section

namespace Cert.Hog

open Idealize.ShloMosaic

/-- Two. -/
theorem word_two : Ideal.ofBits .f32 0x40000000#32 = ((2 : ℝ) : EReal) := by
  simp [Ideal.ofBits, Ideal.ieee, -EReal.coe_mul]; norm_num

/-- Minus two. -/
theorem word_neg_two : Ideal.ofBits .f32 0xC0000000#32 = ((-2 : ℝ) : EReal) := by
  simp [Ideal.ofBits, Ideal.ieee, -EReal.coe_mul]; norm_num

/-- One. -/
theorem word_one : Ideal.ofBits .f32 0x3F800000#32 = ((1 : ℝ) : EReal) := by
  simp [Ideal.ofBits, Ideal.ieee, -EReal.coe_mul]; norm_num

/-- Minus one. -/
theorem word_neg_one : Ideal.ofBits .f32 0xBF800000#32 = ((-1 : ℝ) : EReal) := by
  simp [Ideal.ofBits, Ideal.ieee, -EReal.coe_mul]; norm_num

/-- Nine. -/
theorem word_nine : Ideal.ofBits .f32 0x41100000#32 = ((9 : ℝ) : EReal) := by
  simp [Ideal.ofBits, Ideal.ieee, -EReal.coe_mul]; norm_num

/-- A finite word of the wide format denotes a real number. -/
theorem word_real (w : BitVec 32) (h : (w.extractLsb' 23 8).toNat ≠ 255) : ∃ c : ℝ, Ideal.ofBits .f32 w = (c : EReal) := by
  simp only [Ideal.ofBits, Ideal.ieee]
  rw [if_neg (by simpa using h)]
  split <;> exact ⟨_, rfl⟩

/-- The kernel's nine float words for the numbers of the bins. -/
def binWord : Fin 9 → BitVec 16 :=
  ![0x0000#16, 0x3F80#16, 0x4000#16, 0x4040#16, 0x4080#16, 0x40A0#16, 0x40C0#16, 0x40E0#16, 0x4100#16]

/-- They denote the numbers from zero to eight. -/
theorem binWord_eq (b : Fin 9) : Ideal.ofBits .bf16 (binWord b) = ((b.val : ℝ) : EReal) := by
  fin_cases b <;> simp [binWord, Ideal.ofBits, Ideal.ieee, -EReal.coe_mul] <;> norm_num

/-- The zero of the short format. -/
theorem word_zero_short : Ideal.ofBits .bf16 0x0000#16 = 0 := by
  simp [Ideal.ofBits, Ideal.ieee]

end Cert.Hog

end
-- ==== Proof.Shifts.lean ====
/-
  The first half of the kernel's body, read at a pixel: the grey level, and the two gradients that the body builds by
  shifting whole planes by one row or column.
-/
module

public import proofs.«01_k».proof.Proof.Body
public import proofs.«01_k».proof.Proof.Spec
public import proofs.«01_k».proof.Proof.Consts
public import Idealize.ShloMosaic.Lib.ValueIdx

@[expose] public section

noncomputable section

namespace Cert.Hog.Body

open Cert.KernelIdeal Cert.KernelIdeal.Gen Idealize.ShloMosaic Idealize.ShloMosaic.TcCoe Idealize.SL.Sem
open Idealize.ShloMosaic.ValueIdx

/-- One image of a block, as a picture. -/
abbrev picture (v : Vec Ideal S1x3x384x384 .f32) : Picture := fun c r s => v (ix4 0 c r s)

/-- A channel cut out of the image reads that channel. -/
theorem channel_apply (v : Vec Ideal S1x3x384x384 .f32) (c : Fin 3) (k : ℕ) (hk : k = c.val)
    (h : S3x384x384.Slices ![k, 0, 0] S1x384x384) (r s : Fin 384) :
    shapeCast S384x384 (extractStridedSlice S1x384x384 ![k, 0, 0]
      (shapeCast S3x384x384 v shapeCasts_S1x3x384x384_S3x384x384) h) shapeCasts_S1x384x384_S384x384 (ix2 r s)
      = v (ix4 0 c r s) := by
  subst hk
  rw [shapeCast_apply _ _ (ix2 r s) (ix3 (0 : Fin 1) r s)
        (by rw [Shape.rowMajor_val_three, Shape.rowMajor_val_two]; simp),
    extractStridedSlice_apply _ _ h (ix3 (0 : Fin 1) r s) (ix3 c r s)
      (by intro a; match a with | ⟨0, _⟩ => simp | ⟨1, _⟩ => simp | ⟨2, _⟩ => simp),
    shapeCast_apply _ _ (ix3 c r s) (ix4 (0 : Fin 1) c r s)
        (by rw [Shape.rowMajor_val_three, Shape.rowMajor_val_four]; simp)]

/-- The grey level at a pixel. -/
theorem gray_apply (v : Vec Ideal S1x3x384x384 .f32) (r s : Fin 384) :
    gray v (ix2 r s) = grayOf (picture v) r s := by
  unfold gray grayOf
  simp only [extf_apply, truncf_apply, addf_apply, mulf_apply, broadcast_apply]
  rw [channel_apply v 0 0 rfl slices_S3x384x384_o0_0_0_S1x384x384, channel_apply v 1 1 rfl slices_S3x384x384_o1_0_0_S1x384x384,
    channel_apply v 2 2 rfl slices_S3x384x384_o2_0_0_S1x384x384]
  rfl

section Shift

variable {a : FVec Ideal S384x384 .f32} {g : Fin 384 → Fin 384 → ℝ} (ha : ∀ r s, a (ix2 r s) = ((g r s : ℝ) : EReal))
include ha

/-- The plane from the right, at a pixel. -/
theorem fromRight_apply (r s : Fin 384) :
    fromRight a (ix2 r s) = ((bordered g (r.val + 1) (s.val + 2) : ℝ) : EReal) := by
  unfold fromRight
  by_cases h : s.val < 383
  · rw [concatenate_pair_apply_left (s₁ := S384x383) (s₂ := S384x1) 1 _ _ _ (ix2 r s) rfl (ix2 r (⟨s.val, h⟩ : Fin 383))
        (by intro b; match b with | ⟨0, _⟩ => rfl | ⟨1, _⟩ => rfl),
      extractStridedSlice_apply _ _ _ _ (ix2 r (⟨s.val + 1, by omega⟩ : Fin 384))
        (by intro b; match b with | ⟨0, _⟩ => simp | ⟨1, _⟩ => simp; omega), ha]
    exact congrArg _ (bordered_inside g r ⟨s.val + 1, by omega⟩).symm
  · rw [concatenate_pair_apply_right (s₁ := S384x383) (s₂ := S384x1) 1 _ _ _ (ix2 r s) rfl rfl (ix2 r (0 : Fin 1))
        (by intro b hb; match b with | ⟨0, _⟩ => rfl | ⟨1, _⟩ => exact absurd rfl hb)
        (by show 0 + 383 = s.val; omega), bordered_outside g _ _ (by omega)]
    exact Ideal.ofBits_zero_f32

/-- The plane from the left, at a pixel. -/
theorem fromLeft_apply (r s : Fin 384) :
    fromLeft a (ix2 r s) = ((bordered g (r.val + 1) s.val : ℝ) : EReal) := by
  unfold fromLeft
  by_cases h : s.val = 0
  · rw [concatenate_pair_apply_left (s₁ := S384x1) (s₂ := S384x383) 1 _ _ _ (ix2 r s) rfl (ix2 r (0 : Fin 1))
        (by intro b; match b with | ⟨0, _⟩ => rfl | ⟨1, _⟩ => exact h.symm), bordered_outside g _ _ (by omega)]
    exact Ideal.ofBits_zero_f32
  · rw [concatenate_pair_apply_right (s₁ := S384x1) (s₂ := S384x383) 1 _ _ _ (ix2 r s) rfl rfl (ix2 r (⟨s.val - 1, by omega⟩ : Fin 383))
        (by intro b hb; match b with | ⟨0, _⟩ => rfl | ⟨1, _⟩ => exact absurd rfl hb)
        (by show s.val - 1 + 1 = s.val; omega),
      extractStridedSlice_apply _ _ _ _ (ix2 r (⟨s.val - 1, by omega⟩ : Fin 384))
        (by intro b; match b with | ⟨0, _⟩ => simp | ⟨1, _⟩ => simp), ha]
    have := bordered_inside g r ⟨s.val - 1, by omega⟩
    simp only [show s.val - 1 + 1 = s.val by omega] at this
    rw [this]

/-- The plane from below, at a pixel. -/
theorem fromBelow_apply (r s : Fin 384) :
    fromBelow a (ix2 r s) = ((bordered g (r.val + 2) (s.val + 1) : ℝ) : EReal) := by
  unfold fromBelow
  by_cases h : r.val < 383
  · rw [concatenate_pair_apply_left (s₁ := S383x384) (s₂ := S1x384) 0 _ _ _ (ix2 r s) rfl (ix2 (⟨r.val, h⟩ : Fin 383) s)
        (by intro b; match b with | ⟨0, _⟩ => rfl | ⟨1, _⟩ => rfl),
      extractStridedSlice_apply _ _ _ _ (ix2 (⟨r.val + 1, by omega⟩ : Fin 384) s)
        (by intro b; match b with | ⟨0, _⟩ => simp; omega | ⟨1, _⟩ => simp), ha]
    exact congrArg _ (bordered_inside g ⟨r.val + 1, by omega⟩ s).symm
  · rw [concatenate_pair_apply_right (s₁ := S383x384) (s₂ := S1x384) 0 _ _ _ (ix2 r s) rfl rfl (ix2 (0 : Fin 1) s)
        (by intro b hb; match b with | ⟨0, _⟩ => exact absurd rfl hb | ⟨1, _⟩ => rfl)
        (by show 0 + 383 = r.val; omega), bordered_outside g _ _ (by omega)]
    exact Ideal.ofBits_zero_f32

/-- The plane from above, at a pixel. -/
theorem fromAbove_apply (r s : Fin 384) :
    fromAbove a (ix2 r s) = ((bordered g r.val (s.val + 1) : ℝ) : EReal) := by
  unfold fromAbove
  by_cases h : r.val = 0
  · rw [concatenate_pair_apply_left (s₁ := S1x384) (s₂ := S383x384) 0 _ _ _ (ix2 r s) rfl (ix2 (0 : Fin 1) s)
        (by intro b; match b with | ⟨0, _⟩ => exact h.symm | ⟨1, _⟩ => rfl), bordered_outside g _ _ (by omega)]
    exact Ideal.ofBits_zero_f32
  · rw [concatenate_pair_apply_right (s₁ := S1x384) (s₂ := S383x384) 0 _ _ _ (ix2 r s) rfl rfl (ix2 (⟨r.val - 1, by omega⟩ : Fin 383) s)
        (by intro b hb; match b with | ⟨0, _⟩ => exact absurd rfl hb | ⟨1, _⟩ => rfl)
        (by show r.val - 1 + 1 = r.val; omega),
      extractStridedSlice_apply _ _ _ _ (ix2 (⟨r.val - 1, by omega⟩ : Fin 384) s)
        (by intro b; match b with | ⟨0, _⟩ => simp | ⟨1, _⟩ => simp), ha]
    have := bordered_inside g ⟨r.val - 1, by omega⟩ s
    simp only [show r.val - 1 + 1 = r.val by omega] at this
    rw [this]

/-- The differences of neighbours in a row. -/
theorem diff_apply (r s : Fin 384) : diff a (ix2 r s)
    = ((bordered g (r.val + 1) (s.val + 2) - bordered g (r.val + 1) s.val : ℝ) : EReal) := by
  unfold diff
  rw [subf_apply, fromRight_apply ha, fromLeft_apply ha, EReal.coe_sub]

/-- The weighted sums of neighbours in a row. -/
theorem smooth_apply (r s : Fin 384) : smooth a (ix2 r s)
    = ((bordered g (r.val + 1) s.val + 2 * bordered g (r.val + 1) (s.val + 1) + bordered g (r.val + 1) (s.val + 2) : ℝ)
        : EReal) := by
  unfold smooth
  rw [addf_apply, addf_apply, mulf_apply, broadcast_apply, fromRight_apply ha, fromLeft_apply ha, ha,
    bordered_inside]
  change (_ + Ideal.ofBits .f32 0x40000000#32 * _) + _ = _
  rw [word_two]
  norm_cast

end Shift

/-- A plane given by a formula in rows, zero on the border rows, read with its border. -/
theorem bordered_rows (f : ℕ → ℕ → ℝ) (hf : ∀ i j, i = 0 ∨ 384 < i → f i j = 0) (i : ℕ) (s : Fin 384) :
    bordered (fun (r s : Fin 384) => f (r.val + 1) s.val) i (s.val + 1) = f i s.val := by
  by_cases h : i = 0 ∨ 384 < i
  · rw [bordered_outside _ _ _ (by omega), hf _ _ h]
  · have := bordered_inside (fun (r s : Fin 384) => f (r.val + 1) s.val) ⟨i - 1, by omega⟩ s
    simp only [show i - 1 + 1 = i by omega] at this
    exact this

/-- The horizontal gradient at a pixel. -/
theorem gradX_apply {a : FVec Ideal S384x384 .f32} {g : Fin 384 → Fin 384 → ℝ}
    (ha : ∀ r s, a (ix2 r s) = ((g r s : ℝ) : EReal)) (r s : Fin 384) :
    gradX a (ix2 r s) = ((sobelX g r s : ℝ) : EReal) := by
  have hf : ∀ i j, i = 0 ∨ 384 < i → bordered g i (j + 2) - bordered g i j = 0 := fun i j h => by
    rw [bordered_outside g _ _ (by omega), bordered_outside g _ _ (by omega), sub_self]
  have hr := bordered_rows (fun i j => bordered g i (j + 2) - bordered g i j) hf
  unfold gradX
  rw [addf_apply, addf_apply, mulf_apply, broadcast_apply, fromAbove_apply (diff_apply ha),
    fromBelow_apply (diff_apply ha), diff_apply ha, hr, hr]
  change (_ + Ideal.ofBits .f32 0x40000000#32 * _) + _ = _
  rw [word_two]
  unfold sobelX
  norm_cast

/-- The vertical gradient at a pixel. -/
theorem gradY_apply {a : FVec Ideal S384x384 .f32} {g : Fin 384 → Fin 384 → ℝ}
    (ha : ∀ r s, a (ix2 r s) = ((g r s : ℝ) : EReal)) (r s : Fin 384) :
    gradY a (ix2 r s) = ((sobelY g r s : ℝ) : EReal) := by
  have hf : ∀ i j, i = 0 ∨ 384 < i → bordered g i j + 2 * bordered g i (j + 1) + bordered g i (j + 2) = 0 :=
    fun i j h => by
      rw [bordered_outside g _ _ (by omega), bordered_outside g _ _ (by omega), bordered_outside g _ _ (by omega)]
      norm_num
  have hr := bordered_rows (fun i j => bordered g i j + 2 * bordered g i (j + 1) + bordered g i (j + 2)) hf
  unfold gradY
  rw [subf_apply, fromAbove_apply (smooth_apply ha), fromBelow_apply (smooth_apply ha), hr, hr]
  unfold sobelY
  norm_cast

end Cert.Hog.Body

end
-- ==== Proof.Angle.lean ====
/-
  Bins: the two programs' ways from a gradient to the number of its bin. The kernel multiplies the angle in
  `(-π, π]` by `9 / 2π`, rounds down and adds 9 to a negative result; the reference takes the angle modulo `2π`, divides
  by `2π / 9` and rounds toward zero. Both are `bin`.
-/
module

public import proofs.«01_k».proof.Proof.Spec

@[expose] public section

noncomputable section

namespace Cert.Hog

open Idealize.ShloMosaic

/-- The ideal `atan2` of two reals is `angle`. -/
theorem atan2_coe (y x : ℝ) : Ideal.atan2 (y : EReal) (x : EReal) = ((angle y x : ℝ) : EReal) := rfl

/-- The angle is above `-π` … -/
theorem neg_pi_lt_angle (y x : ℝ) : -Real.pi < angle y x := by
  have hpi := Real.pi_pos
  have h1 := Real.neg_pi_div_two_lt_arctan (y / x)
  have h2 := Real.arctan_lt_pi_div_two (y / x)
  unfold angle
  split_ifs with a b c d e
  · linarith
  · linarith
  · have : 0 < Real.arctan (y / x) := Real.arctan_pos.mpr (div_pos_of_neg_of_neg (not_le.mp c) b)
    linarith
  · linarith
  · linarith
  · linarith

/-- … and at most `π`. -/
theorem angle_le_pi (y x : ℝ) : angle y x ≤ Real.pi := by
  have hpi := Real.pi_pos
  have h1 := Real.neg_pi_div_two_lt_arctan (y / x)
  have h2 := Real.arctan_lt_pi_div_two (y / x)
  unfold angle
  split_ifs with a b c d e
  · linarith
  · have : Real.arctan (y / x) ≤ 0 := by
      have := Real.arctan_strictMono.monotone (div_nonpos_of_nonneg_of_nonpos c b.le)
      rwa [Real.arctan_zero] at this
    linarith
  · linarith
  · linarith
  · linarith
  · linarith

/-- The angle taken in `[0, 2π)`. -/
theorem turn_mem (y x : ℝ) : 0 ≤ turn y x ∧ turn y x < 2 * Real.pi := by
  have hpi := Real.pi_pos
  have h1 := neg_pi_lt_angle y x
  have h2 := angle_le_pi y x
  unfold turn
  split_ifs with h
  · exact ⟨by linarith, by linarith⟩
  · exact ⟨by linarith, by linarith⟩

/-- A bin's number is one of `0, …, 8`. -/
theorem bin_mem (gx gy : ℝ) : 0 ≤ bin gx gy ∧ bin gx gy < 9 := by
  have hpi := Real.pi_pos
  obtain ⟨h0, h1⟩ := turn_mem gy gx
  have hw : (0 : ℝ) < 2 * Real.pi / 9 := by positivity
  unfold bin
  refine ⟨Int.floor_nonneg.mpr (div_nonneg h0 hw.le), Int.floor_lt.mpr ?_⟩
  rw [div_lt_iff₀ hw]
  push_cast
  linarith

/-- The kernel's way: `⌊angle · 9/2π⌋`, and 9 more where that is negative. -/
theorem bin_of_angle (gx gy : ℝ) :
    (if ⌊angle gy gx * (9 / 2 * Real.pi⁻¹)⌋ < 0 then ⌊angle gy gx * (9 / 2 * Real.pi⁻¹)⌋ + 9
      else ⌊angle gy gx * (9 / 2 * Real.pi⁻¹)⌋) = bin gx gy := by
  have hpi := Real.pi_pos
  have hne : Real.pi ≠ 0 := hpi.ne'
  have hc : (0 : ℝ) < 9 / 2 * Real.pi⁻¹ := by positivity
  have hneg : ⌊angle gy gx * (9 / 2 * Real.pi⁻¹)⌋ < 0 ↔ angle gy gx < 0 := by
    rw [Int.floor_lt, Int.cast_zero]
    constructor
    · intro h; by_contra h'; exact absurd h (not_lt.mpr (mul_nonneg (not_lt.mp h') hc.le))
    · intro h; exact mul_neg_of_neg_of_pos h hc
  unfold bin turn
  by_cases h : angle gy gx < 0
  · rw [if_pos (hneg.mpr h), if_pos h, ← Int.floor_add_ofNat]
    congr 1
    field_simp
  · rw [if_neg (fun h' => h (hneg.mp h')), if_neg h]
    congr 1
    field_simp

/-- The reference's remainder of the angle by a whole turn is the angle itself: it is less than a turn. -/
theorem remf_angle (y x : ℝ) :
    Ideal.remf ((angle y x : ℝ) : EReal) ((2 * Real.pi : ℝ) : EReal) = ((angle y x : ℝ) : EReal) := by
  have hpi := Real.pi_pos
  have hne : (2 * Real.pi : ℝ) ≠ 0 := by positivity
  have h1 := neg_pi_lt_angle y x
  have h2 := angle_le_pi y x
  have ht : Ideal.truncInt (angle y x / (2 * Real.pi)) = 0 := by
    unfold Ideal.truncInt
    split_ifs with h
    · rw [Int.floor_eq_zero_iff]
      exact ⟨h, by rw [div_lt_one (by positivity)]; linarith⟩
    · rw [Int.ceil_eq_zero_iff]
      refine ⟨?_, (not_le.mp h).le⟩
      rw [lt_div_iff₀ (by positivity)]
      linarith
  rw [Ideal.remf_coe, if_neg hne, ht]
  simp

/-- Rounding the reference's quotient toward zero into a 32-bit word gives the bin's number. -/
theorem fptosi_turn (gx gy : ℝ) :
    Ideal.fptosi 32 ((turn gy gx / (2 * Real.pi / 9) : ℝ) : EReal) = BitVec.ofInt 32 (bin gx gy) := by
  have hb := bin_mem gx gy
  have h0 := (turn_mem gy gx).1
  have hpi := Real.pi_pos
  have hq : 0 ≤ turn gy gx / (2 * Real.pi / 9) := by positivity
  unfold Ideal.fptosi
  rw [Ideal.toIntClamped_coe, if_pos hq]
  change BitVec.ofInt 32 (max _ (min _ (bin gx gy))) = _
  congr 1
  norm_num
  omega

end Cert.Hog

end
-- ==== Proof.Matrices.lean ====
/-
  The three one-hot matrices of the kernel's body, read at an index: the two that add up groups of eight, and the one
  that reorders columns. Each entry is computed on 32-bit words from the index; what the words come to is decided.
-/
module

public import proofs.«01_k».proof.Proof.Body
public import Idealize.ShloMosaic.PureOps.Ideal.Laws
public import Idealize.ShloMosaic.Lib.ValueIdx

@[expose] public section

noncomputable section

namespace Cert.Hog.Body

open Cert.KernelIdeal Cert.KernelIdeal.Gen Idealize.ShloMosaic Idealize.ShloMosaic.TcCoe Idealize.SL.Sem

/-- The sign of a word, as the body computes it: one if positive, minus one if negative. -/
def signWord (x : BitVec 32) : BitVec 32 :=
  IntOp.subi ((IntOp.cmpi .sgt x 0#32).setWidth 32) ((IntOp.cmpi .slt x 0#32).setWidth 32)

/-- The body's division of a word `x` by a word `d`, rounded down. -/
def floorDiv (d x : BitVec 32) : BitVec 32 :=
  Scalar.select
    (IntOp.andi (IntOp.cmpi .ne (signWord x) (signWord d)) (IntOp.cmpi .ne (IntOp.remsi .vector x d) 0#32))
    (IntOp.subi (IntOp.divsi .vector x d) 1#32) (IntOp.divsi .vector x d)

/-- The body's remainder of a word `x` by 48. -/
def mod48 (x : BitVec 32) : BitVec 32 :=
  let d := Scalar.select (Scalar.cmpi .eq 48#32 0#32) 1#32 48#32
  let r := IntOp.remsi .vector x d
  Scalar.select (IntOp.andi (IntOp.xori (IntOp.cmpi .slt r 0#32) (Scalar.cmpi .slt d 0#32)) (IntOp.cmpi .ne r 0#32))
    (IntOp.addi r d) r

/-- A test of two words, as a float: one if they are equal, zero if not. -/
def equalAs (φ : FTy) (x y : BitVec 32) : Ideal φ :=
  FloatOps.sitofp (F := Ideal) φ ((IntOp.cmpi .eq x y).setWidth 32)

/-- The float of a test of two small numbers. -/
theorem equalAs_ofNat (φ : FTy) (a b : ℕ) (ha : a < 2 ^ 32) (hb : b < 2 ^ 32) :
    equalAs φ (BitVec.ofNat 32 a) (BitVec.ofNat 32 b) = if a = b then (1 : EReal) else 0 := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · intro h; rw [h]
  change (((((IntOp.cmpi .eq (BitVec.ofNat 32 a) (BitVec.ofNat 32 b)).setWidth 32).toInt : ℤ) : ℝ) : EReal) = _
  by_cases e : a = b
  · subst e; simp [IntOp.cmpi]
  · have e' : (BitVec.ofNat 32 a == BitVec.ofNat 32 b) = false := by rw [beq_eq_false_iff_ne]; exact fun h' => e (h.mp h')
    simp [IntOp.cmpi, e, e']

/-- Division by eight, on the numbers of the pixels of a row. -/
theorem floorDiv_eight : ∀ k : Fin 384, floorDiv 8#32 (BitVec.ofNat 32 k.val) = BitVec.ofNat 32 (k.val / 8) := by
  decide +kernel

/-- The column that the reordering sends column `k` to. -/
theorem reorder_word : ∀ k : Fin 432, IntOp.addi (IntOp.muli (mod48 (BitVec.ofNat 32 k.val)) 9#32)
    (floorDiv 48#32 (BitVec.ofNat 32 k.val)) = BitVec.ofNat 32 (k.val % 48 * 9 + k.val / 48) := by
  decide +kernel

/-- The matrix that adds up groups of eight columns: one at `(k, j)` if pixel column `k` lies in cell column `j`. -/
theorem columnGroups_apply (k : Fin 384) (j : Fin 48) :
    k0_pay2 (F := Ideal) (ValueIdx.ix2 k j) = if k.val / 8 = j.val then (1 : EReal) else 0 := by
  have h : k0_pay2 (F := Ideal) (ValueIdx.ix2 k j)
      = equalAs .f32 (floorDiv 8#32 (iota .tc S384x48 32 [0] iota_S384x48_d0_w32 (ValueIdx.ix2 k j)))
          (iota .tc S384x48 32 [1] iota_S384x48_d1_w32 (ValueIdx.ix2 k j)) := rfl
  rw [h, iota_single_apply, iota_single_apply]
  change equalAs .f32 (floorDiv 8#32 (BitVec.ofNat 32 k.val)) (BitVec.ofNat 32 j.val) = _
  rw [floorDiv_eight, equalAs_ofNat _ _ _ (by omega) (by omega)]

/-- The matrix that adds up groups of eight rows: one at `(i, k)` if pixel row `k` lies in cell row `i`. -/
theorem rowGroups_apply (i : Fin 48) (k : Fin 384) :
    rowGroups (F := Ideal) (ValueIdx.ix2 i k) = if k.val / 8 = i.val then (1 : EReal) else 0 := by
  have h : rowGroups (F := Ideal) (ValueIdx.ix2 i k)
      = equalAs .f32 (floorDiv 8#32 (iota .tc S48x384 32 [1] iota_S48x384_d1_w32 (ValueIdx.ix2 i k)))
          (iota .tc S48x384 32 [0] iota_S48x384_d0_w32 (ValueIdx.ix2 i k)) := rfl
  rw [h, iota_single_apply, iota_single_apply]
  change equalAs .f32 (floorDiv 8#32 (BitVec.ofNat 32 k.val)) (BitVec.ofNat 32 i.val) = _
  rw [floorDiv_eight, equalAs_ofNat _ _ _ (by omega) (by omega)]

/-- The matrix that reorders the columns: one at `(k, J)` if column `k`, which is bin `k / 48` of cell `k % 48`, goes to
    column `J`. -/
theorem reorder_apply (k J : Fin 432) :
    reorder (F := Ideal) (ValueIdx.ix2 k J) = if J.val = k.val % 48 * 9 + k.val / 48 then (1 : EReal) else 0 := by
  have h : reorder (F := Ideal) (ValueIdx.ix2 k J)
      = equalAs .f32 (iota .tc S432x432 32 [1] iota_S432x432_d1_w32 (ValueIdx.ix2 k J))
          (IntOp.addi (IntOp.muli (mod48 (iota .tc S432x432 32 [0] iota_S432x432_d0_w32 (ValueIdx.ix2 k J))) 9#32)
            (floorDiv 48#32 (iota .tc S432x432 32 [0] iota_S432x432_d0_w32 (ValueIdx.ix2 k J)))) := rfl
  rw [h, iota_single_apply, iota_single_apply]
  change equalAs .f32 (BitVec.ofNat 32 J.val) (IntOp.addi (IntOp.muli (mod48 (BitVec.ofNat 32 k.val)) 9#32)
    (floorDiv 48#32 (BitVec.ofNat 32 k.val))) = _
  rw [reorder_word, equalAs_ofNat _ _ _ (by omega) (by omega)]

end Cert.Hog.Body

end
-- ==== Proof.Hist.lean ====
/-
  The second half of the kernel's body, read at an index: each pixel's bin and magnitude, the masks, and the histograms
  that the matrix products add up.
-/
module

public import proofs.«01_k».proof.Proof.Shifts
public import proofs.«01_k».proof.Proof.Angle
public import proofs.«01_k».proof.Proof.Matrices
public import Idealize.ShloMosaic.Lib.MatmulPlain

@[expose] public section

noncomputable section

open scoped BigOperators

namespace Cert.Hog

/-- A sum over the rows of a plane that keeps those of cell row `i` is the sum over the eight rows of that cell row. -/
theorem sum_inCell (f : Fin 384 → EReal) (i : Fin 48) :
    ∑ k : Fin 384, (if k.val / 8 = i.val then f k else 0) = ∑ a : Fin 8, f (inCell i a) := by
  have e := Equiv.sum_comp (finProdFinEquiv (m := 48) (n := 8))
    (fun k : Fin 384 => if k.val / 8 = i.val then f k else 0)
  rw [← e, Fintype.sum_prod_type, Finset.sum_eq_single i]
  · refine Finset.sum_congr rfl fun a _ => ?_
    have hv : (finProdFinEquiv (i, a)).val = 8 * i.val + a.val := by
      rw [finProdFinEquiv_apply_val]; simp; omega
    rw [if_pos (by rw [hv]; omega)]
    exact congrArg f (Fin.ext hv)
  · intro i' _ hne
    refine Finset.sum_eq_zero fun a _ => if_neg ?_
    have hv : (finProdFinEquiv (i', a)).val = 8 * i'.val + a.val := by
      rw [finProdFinEquiv_apply_val]; simp; omega
    intro h
    exact hne (Fin.ext (by rw [hv] at h; omega))
  · intro h; exact absurd (Finset.mem_univ i) h

end Cert.Hog

namespace Cert.Hog.Body

open Cert.KernelIdeal Cert.KernelIdeal.Gen Idealize.ShloMosaic Idealize.ShloMosaic.TcCoe Idealize.SL.Sem
open Idealize.ShloMosaic.ValueIdx

/-- A product of matrices with a zero accumulator, at an index. -/
theorem product_apply {M K N : ℕ} {φ₁ φ₂ : FTy} (l : FVec Ideal ⟨2, ![M, K]⟩ φ₁) (r : FVec Ideal ⟨2, ![K, N]⟩ φ₂)
    (i : Fin M) (j : Fin N) :
    matmul (DotDims.plain M K N) none l r (constant ⟨2, ![M, N]⟩ .f32 0x00000000#32) (ix2 i j)
      = ∑ k : Fin K, l (ix2 i k) * r (ix2 k j) := by
  simp only [matmul]
  rw [Ideal.matmul_plain_apply, constant_apply, Ideal.ofBits_zero_f32, zero_add]

/-- The named constant of the body … -/
def perRadian : EReal := Named.named (F := Ideal) (φ := .f32) κ "bins_per_radian" 0x3FB758B4#32

/-- … is nine bins to a whole turn. -/
theorem perRadian_eq : perRadian = ((9 / 2 * Real.pi⁻¹ : ℝ) : EReal) :=
  IdealRules.named_const.ideal_named_scalar _ _ _ _ rfl

section Pixels

variable {gx gy : FVec Ideal S384x384 .f32} {x y : Fin 384 → Fin 384 → ℝ}
  (hx : ∀ r s, gx (ix2 r s) = ((x r s : ℝ) : EReal)) (hy : ∀ r s, gy (ix2 r s) = ((y r s : ℝ) : EReal))
include hx hy

/-- A pixel's bin, as the body's float. -/
theorem bins_apply (r s : Fin 384) : bins gx gy (ix2 r s) = ((((bin (x r s) (y r s) : ℤ) : ℝ)) : EReal) := by
  have hq : (floor (mulf (atan2 gy gx) (broadcast S384x384 (Named.named κ "bins_per_radian" 0x3FB758B4#32)))
      : FVec Ideal S384x384 .f32) (ix2 r s) = (((⌊angle (y r s) (x r s) * (9 / 2 * Real.pi⁻¹)⌋ : ℤ) : ℝ) : EReal) := by
    change Ideal.liftRound _ (Ideal.atan2 (gy (ix2 r s)) (gx (ix2 r s)) * perRadian) = _
    rw [perRadian_eq, hx, hy, atan2_coe, ← EReal.coe_mul, Ideal.liftRound_coe]
  unfold bins
  simp only [truncf_apply, select_apply, cmpf_apply, addf_apply, broadcast_apply]
  rw [hq, ← bin_of_angle]
  generalize ⌊angle (y r s) (x r s) * (9 / 2 * Real.pi⁻¹)⌋ = q
  change Scalar.select (Ideal.cmp .olt _ (Ideal.ofBits .f32 0x00000000#32)) (_ + Ideal.ofBits .f32 0x41100000#32) _ = _
  rw [Ideal.ofBits_zero_f32, word_nine]
  by_cases h : q < 0
  · rw [if_pos h]
    have : Ideal.cmp .olt ((q : ℝ) : EReal) 0 = 1#1 := by simp [Ideal.cmp, h]
    rw [this, select_one]
    push_cast
    rfl
  · rw [if_neg h]
    have : Ideal.cmp .olt ((q : ℝ) : EReal) 0 = 0#1 := by simp [Ideal.cmp, h]
    rw [this, select_zero]

/-- A pixel's magnitude. -/
theorem mags_apply (r s : Fin 384) : mags gx gy (ix2 r s) = magnitude (x r s) (y r s) := by
  unfold mags magnitude
  change Ideal.sqrt (gx (ix2 r s) * gx (ix2 r s) + gy (ix2 r s) * gy (ix2 r s) + _) = _
  rw [hx, hy]
  rfl

/-- The magnitudes masked for one bin. -/
theorem mask_apply (b : Fin 9) (r s : Fin 384) : mask (binWord b) (bins gx gy) (mags gx gy) (ix2 r s)
    = if bin (x r s) (y r s) = (b.val : ℤ) then magnitude (x r s) (y r s) else 0 := by
  unfold mask
  simp only [select_apply, cmpf_apply, broadcast_apply]
  rw [bins_apply hx hy, mags_apply hx hy]
  change Scalar.select (Ideal.cmp .oeq _ (Ideal.ofBits .bf16 (binWord b))) _ (Ideal.ofBits .bf16 0x0000#16) = _
  rw [binWord_eq, word_zero_short]
  by_cases h : bin (x r s) (y r s) = (b.val : ℤ)
  · have : Ideal.cmp .oeq (((bin (x r s) (y r s) : ℤ) : ℝ) : EReal) ((b.val : ℝ) : EReal) = 1#1 := by
      simp [Ideal.cmp, h]
    rw [this, select_one, if_pos h]
  · have : Ideal.cmp .oeq (((bin (x r s) (y r s) : ℤ) : ℝ) : EReal) ((b.val : ℝ) : EReal) = 0#1 := by
      have h' : ¬ (((bin (x r s) (y r s) : ℤ) : ℝ) : EReal) = ((b.val : ℝ) : EReal) := by
        rw [EReal.coe_eq_coe_iff]; exact_mod_cast h
      simp only [Ideal.cmp, h', decide_false]
      rfl
    rw [this, select_zero, if_neg h]

end Pixels

/-- One bin's row sums at an index: the masked values of the eight columns of a cell column. -/
theorem rowSums_apply (w : BitVec 16) (q m : FVec Ideal S384x384 .bf16) (r : Fin 384) (j : Fin 48) :
    rowSums w q m (ix2 r j) = ∑ c : Fin 8, mask w q m (ix2 r (inCell j c)) := by
  rw [← sum_inCell (fun k => mask w q m (ix2 r k)) j]
  refine (product_apply (M := 384) (K := 384) (N := 48) (mask w q m) (k0_pay2 (F := Ideal)) r j).trans ?_
  refine Finset.sum_congr rfl fun k _ => ?_
  rw [columnGroups_apply, mul_ite, mul_one, mul_zero]

/-- The row sums side by side, at an index: column `k` is cell column `k % 48` of bin `k / 48`. -/
theorem allRows_apply (q m : FVec Ideal S384x384 .bf16) (r : Fin 384) (k : Fin 432) :
    allRows q m (ix2 r k)
      = rowSums (binWord ⟨k.val / 48, by omega⟩) q m (ix2 r (⟨k.val % 48, by omega⟩ : Fin 48)) := by
  have h : allRows q m = concatenate S384x432 1
      (List.ofFn fun n : Fin 9 => (⟨S384x48, rowSums (binWord n) q m⟩ : (s : Shape) × (s.Idx → EReal)))
      concatenates_S384x48_S384x48_S384x48_S384x48_S384x48_S384x48_S384x48_S384x48_S384x48_S384x432_d1 := rfl
  rw [h]
  exact concatenate_ofFn_apply (t := S384x432) (s₁ := S384x48) 1 (fun n : Fin 9 => rowSums (binWord n) q m) _ rfl 48 rfl (ix2 r k)
    ⟨k.val / 48, by omega⟩ rfl (ix2 r (⟨k.val % 48, by omega⟩ : Fin 48)) rfl
    (by intro b hb; match b with | ⟨0, _⟩ => rfl | ⟨1, _⟩ => exact absurd rfl hb)

/-- The histograms at an index: column `J` of cell row `i` is bin `J % 9` of cell column `J / 9`. -/
theorem hist_apply (q m : FVec Ideal S384x384 .bf16) (i : Fin 48) (J : Fin 432) :
    hist q m (ix2 i J) = ∑ a : Fin 8, ∑ c : Fin 8,
      mask (binWord ⟨J.val % 9, by omega⟩) q m (ix2 (inCell i a) (inCell ⟨J.val / 9, by omega⟩ c)) := by
  refine (product_apply (M := 48) (K := 432) (N := 432) (φ₁ := .f32) (φ₂ := .f32) _ (reorder (F := Ideal)) i J).trans ?_
  have hJ := J.isLt
  rw [Finset.sum_eq_single (⟨J.val % 9 * 48 + J.val / 9, by omega⟩ : Fin 432)]
  · rw [reorder_apply, if_pos (by simp only; omega), mul_one]
    refine (product_apply (M := 48) (K := 384) (N := 432) (rowGroups (F := Ideal)) (allRows q m) i _).trans ?_
    rw [← sum_inCell (fun r => ∑ c : Fin 8,
      mask (binWord ⟨J.val % 9, by omega⟩) q m (ix2 r (inCell ⟨J.val / 9, by omega⟩ c))) i]
    refine Finset.sum_congr rfl fun r _ => ?_
    rw [rowGroups_apply, ite_mul, one_mul, zero_mul, allRows_apply, rowSums_apply]
    have h1 : (J.val % 9 * 48 + J.val / 9) / 48 = J.val % 9 := by omega
    have h2 : (J.val % 9 * 48 + J.val / 9) % 48 = J.val / 9 := by omega
    simp only [h1, h2]
  · intro k _ hk
    rw [reorder_apply, if_neg, mul_zero]
    intro h
    exact hk (Fin.ext (by simp only; omega))
  · intro h; exact absurd (Finset.mem_univ _) h

/-- A sum over a block of one slab, by its two coordinates. -/
theorem sum_slab (f : S1x48x432.Idx → EReal) : ∑ x, f x = ∑ i : Fin 48, ∑ J : Fin 432, f (ix3 0 i J) := by
  let e : S1x48x432.Idx ≃ Fin 48 × Fin 432 :=
    { toFun := fun x => (x 1, x 2)
      invFun := fun p => ix3 0 p.1 p.2
      left_inv := fun x => by
        rw [eq_ix3 x]
        exact congrArg (fun z : Fin 1 => (ix3 z (x 1) (x 2) : S1x48x432.Idx)) (Subsingleton.elim _ _)
      right_inv := fun _ => rfl }
  rw [← Equiv.sum_comp e.symm f, Fintype.sum_prod_type]
  rfl

/-- The normalised histograms at an index. -/
theorem normed_apply (h : FVec Ideal S48x432 .f32) (i : Fin 48) (J : Fin 432) :
    normed h (ix2 i J) = Ideal.div (h (ix2 i J))
      (Ideal.sqrt (∑ i : Fin 48, ∑ J : Fin 432, h (ix2 i J) * h (ix2 i J)) + Ideal.ofBits .f32 0x358637BD#32) := by
  unfold normed
  rw [divf_apply, broadcast_apply]
  have e : extractAt ![0, 0, 0]
      (shapeCast S1x1x1 (multiReduction .add [1, 2] S1 (shapeCast S1x48x432 (mulf h h) shapeCasts_S48x432_S1x48x432)
        0x00000000#32 reduces_S1x48x432_S1 (.inl rfl) rfl) shapeCasts_S1_S1x1x1) inpos_S1x1x1_p0_0_0
      = ∑ i : Fin 48, ∑ J : Fin 432, h (ix2 i J) * h (ix2 i J) := by
    unfold extractAt
    rw [shapeCast_apply _ _ _ (ix1 (0 : Fin 1)) (by rfl)]
    refine (Ideal.multiReduction_add_total _ _ _ (by intro b; match b with | ⟨0, _⟩ => rfl) _ _ _).trans ?_
    rw [sum_slab]
    refine Finset.sum_congr rfl fun i _ => Finset.sum_congr rfl fun J _ => ?_
    rw [shapeCast_apply _ _ (ix3 0 i J) (ix2 i J) (by rw [Shape.rowMajor_val_three, Shape.rowMajor_val_two]; simp)]
    rfl
  rw [e]
  rfl

/-- **The body of one image**: where the grey level is the real plane `g`, the descriptor of `g`. -/
theorem body_apply (v : Vec Ideal S1x3x384x384 .f32) (g : Fin 384 → Fin 384 → ℝ)
    (hg : ∀ r s, grayOf (picture v) r s = ((g r s : ℝ) : EReal)) (i : Fin 48) (J : Fin 432) :
    body v (ix3 0 i J) = descriptor g i J := by
  have ha : ∀ r s, gray v (ix2 r s) = ((g r s : ℝ) : EReal) := fun r s => (gray_apply v r s).trans (hg r s)
  have hh : ∀ (i : Fin 48) (J : Fin 432),
      hist (bins (gradX (gray v)) (gradY (gray v))) (mags (gradX (gray v)) (gradY (gray v))) (ix2 i J) = entry g i J := by
    intro i J
    rw [hist_apply]
    unfold entry cell
    refine Finset.sum_congr rfl fun a _ => Finset.sum_congr rfl fun c _ => ?_
    rw [mask_apply (gradX_apply ha) (gradY_apply ha)]
    rfl
  unfold body
  rw [shapeCast_apply _ _ (ix3 0 i J) (ix2 i J) (by rw [Shape.rowMajor_val_three, Shape.rowMajor_val_two]; simp),
    normed_apply, hh]
  unfold descriptor energy
  simp only [hh]

end Cert.Hog.Body

end
-- ==== Proof.Array.lean ====
/-
  The kernel's result array: every grid point stores eight images, each through `body`; the points' blocks tile the
  array; and the host line after the kernel lays each image's histograms out as one row.
-/
module

public import proofs.«01_k».proof.Proof.Body
public import Idealize.ShloMosaic.Lib.ValueIdx
public import Idealize.ShloMosaic.Lib.KernelVsHost
public import Idealize.ShloMosaic.Lib.Pipeline.Value
public import Idealize.ShloMosaic.Lib.Pipeline.ValueKit

@[expose] public section

noncomputable section

namespace Cert.Hog.Body

open Cert.KernelIdeal Cert.KernelIdeal.Gen Idealize.ShloMosaic Idealize.ShloMosaic.TcCoe Idealize.SL.Sem
open Idealize.ShloMosaic.Pipeline (Dat)

variable {F : FTy → Type} [FloatOps F] [Named F]

/-- Image `n` of a stack of `N` images, on its own. -/
def slab {N : ℕ} (x : (⟨4, ![N, 3, 384, 384]⟩ : Shape).Idx → F .f32) (n : Fin N) : Vec F S1x3x384x384 .f32 :=
  fun y => x (ValueIdx.ix4 n (y 1) (y 2) (y 3))

/-- What the kernel computes of a stack of `N` images: each image through `body`. -/
def stack {N : ℕ} (x : (⟨4, ![N, 3, 384, 384]⟩ : Shape).Idx → F .f32) : (⟨3, ![N, 48, 432]⟩ : Shape).Idx → F .f32 :=
  fun y => body (slab x (y 0)) (ValueIdx.ix3 0 (y 1) (y 2))

/-- One store of a grid point: image `k` of the block, through `body`, lands where `stack` has it. -/
theorem piece_apply (x0 : Vec F S8x3x384x384 .f32) (k : Fin 8) (inb inb') (y : S1x48x432.Idx) :
    body (View.ld x0 (Rect.unit ![k.val, 0, 0, 0] S1x3x384x384.size inb)) y
      = stack (N := 8) x0 ((Rect.unit (s := S8x48x432) ![k.val, 0, 0] S1x48x432.size inb').emb y) := by
  have h0 : (y 0).val = 0 := by have h : (y 0).val < 1 := (y 0).isLt; omega
  have hx : View.ld x0 (Rect.unit ![k.val, 0, 0, 0] S1x3x384x384.size inb) = slab (N := 8) x0 k := by
    funext z
    have hz : (z 0).val = 0 := by have h : (z 0).val < 1 := (z 0).isLt; omega
    refine View.ld_unit_apply_of x0 _ _ _ z _ fun a => ?_
    match a with
    | ⟨0, _⟩ => show k.val = k.val + (z 0).val; omega
    | ⟨1, _⟩ => show (z 1).val = 0 + (z 1).val; omega
    | ⟨2, _⟩ => show (z 2).val = 0 + (z 2).val; omega
    | ⟨3, _⟩ => show (z 3).val = 0 + (z 3).val; omega
  have hy : (Rect.unit (s := S8x48x432) ![k.val, 0, 0] S1x48x432.size inb').emb y = ValueIdx.ix3 k (y 1) (y 2) := by
    funext a
    refine Fin.ext ?_
    match a with
    | ⟨0, _⟩ => show k.val + 1 * (y 0).val = k.val; omega
    | ⟨1, _⟩ => show 0 + 1 * (y 1).val = (y 1).val; omega
    | ⟨2, _⟩ => show 0 + 1 * (y 2).val = (y 2).val; omega
  rw [hx, hy]
  refine congrArg (body (slab (N := 8) x0 k)) ?_
  funext a
  match a with
  | ⟨0, _⟩ => exact Fin.ext h0
  | ⟨1, _⟩ => rfl
  | ⟨2, _⟩ => rfl

/-- A grid point's whole block. -/
theorem out_stack (x0 : Vec F S8x3x384x384 .f32) : out0_1 x0 = stack (N := 8) x0 := by
  funext y
  rw [out_eq]
  refine View.canon_apply_of_pieces (stack (N := 8) x0) _ ?_ y (cover0_1 _ _ _ _ _ _ _ _ y)
  intro p hp z
  simp only [List.mem_cons, List.mem_nil_iff, or_false] at hp
  rcases hp with rfl | rfl | rfl | rfl | rfl | rfl | rfl | rfl
  · exact piece_apply x0 7 inb_S8x3x384x384_S1x3x384x384_7_0_0_0 inb_S8x48x432_S1x48x432_7_0_0 z
  · exact piece_apply x0 6 inb_S8x3x384x384_S1x3x384x384_6_0_0_0 inb_S8x48x432_S1x48x432_6_0_0 z
  · exact piece_apply x0 5 inb_S8x3x384x384_S1x3x384x384_5_0_0_0 inb_S8x48x432_S1x48x432_5_0_0 z
  · exact piece_apply x0 4 inb_S8x3x384x384_S1x3x384x384_4_0_0_0 inb_S8x48x432_S1x48x432_4_0_0 z
  · exact piece_apply x0 3 inb_S8x3x384x384_S1x3x384x384_3_0_0_0 inb_S8x48x432_S1x48x432_3_0_0 z
  · exact piece_apply x0 2 inb_S8x3x384x384_S1x3x384x384_2_0_0_0 inb_S8x48x432_S1x48x432_2_0_0 z
  · exact piece_apply x0 1 inb_S8x3x384x384_S1x3x384x384_1_0_0_0 inb_S8x48x432_S1x48x432_1_0_0 z
  · exact piece_apply x0 0 inb_S8x3x384x384_S1x3x384x384_0_0_0_0 inb_S8x48x432_S1x48x432_0_0_0 z

variable (m : (ℓ : Loc nD τ sig) → Buf (Elt F) ℓ)

/-- The images, as the kernel is launched. -/
abbrev images (c : Dev nD) : Vec F S64x3x384x384 .f32 := m ((c : Thread nD τ).loc main_arg0)

/-- The output block at a grid point starts at eight times the point. -/
theorem outIndex : ∀ t : Fin cfg0.N, win0_1.index t = ![t.val, 0, 0] :=
  (by decide +kernel : ∀ t : Fin grid0.N, win0_1.index t = ![t.val, 0, 0])

/-- So does the input block. -/
theorem inIndex : ∀ t : Fin cfg0.N, win0_0.index t = ![t.val, 0, 0, 0] :=
  (by decide +kernel : ∀ t : Fin grid0.N, win0_0.index t = ![t.val, 0, 0, 0])

/-- The kernel's result array. -/
theorem final_array (c : Dev nD) : (dats m 0 c).arrAt 1 cfg0.N = stack (N := 64) (images m c) := by
  refine (dats m 0 c).arrAt_eq_of_covers 1 _ (by decide +kernel) fun t hf y => ?_
  blk_simp
  rw [after0_1, out_stack]
  have h0 : ((win0_1.blk t).view.emb y 0 : ℕ) = t.val * 8 + (y 0 : ℕ) := by blk_simp [outIndex]
  have h1 : ((win0_1.blk t).view.emb y 1 : ℕ) = (y 1 : ℕ) := by blk_simp [outIndex]
  have h2 : ((win0_1.blk t).view.emb y 2 : ℕ) = (y 2 : ℕ) := by blk_simp [outIndex]
  have hs : slab (N := 8) (iblk m c 0 t) (y 0) = slab (N := 64) (images m c) ((win0_1.blk t).view.emb y 0) := by
    funext z
    show iblk m c 0 t (ValueIdx.ix4 (y 0) (z 1) (z 2) (z 3)) = images m c (ValueIdx.ix4 _ (z 1) (z 2) (z 3))
    blk_simp [iblk]
    refine congrArg (images m c) (funext fun a => Fin.ext ?_)
    match a with
    | ⟨0, _⟩ => refine Eq.trans ?_ h0.symm; blk_simp [inIndex]
    | ⟨1, _⟩ => blk_simp [inIndex]
    | ⟨2, _⟩ => blk_simp [inIndex]
    | ⟨3, _⟩ => blk_simp [inIndex]
  show body (slab (N := 8) (iblk m c 0 t) (y 0)) _ = body (slab (N := 64) (images m c) _) _
  rw [hs]
  refine congrArg _ (funext fun a => Fin.ext ?_)
  match a with
  | ⟨0, _⟩ => rfl
  | ⟨1, _⟩ => exact h1.symm
  | ⟨2, _⟩ => exact h2.symm

/-- The host line after the kernel: each image's histograms in one row, ordered as they stand in the array. -/
theorem tail_apply (c : Dev nD) :
    Pipeline.afterTail₀ cfgs (dats m) 0 (V0 m) [hostOps1] c main_v1
      = shapeCast S64x20736 (stack (N := 64) (images m c)) shapeCasts_S64x48x432_S64x20736 := by
  unfold Pipeline.afterTail₀
  simp only [hostOps1, List.flatten_cons, List.flatten_nil, List.append_nil, StableHlo.after_cons, StableHlo.after_nil]
  refine (StableHlo.reshape_result main_v0 main_v1 _ _ _ _ _).trans ?_
  have h := Pipeline.withArrays_arr spec0 launch0.win.arr_inj c (V0 m c)
    (fun w => (dats m 0 c).arrAt w cfg0.N) 1
  rw [final_array] at h
  exact congrArg (fun X => shapeCast S64x20736 X shapeCasts_S64x48x432_S64x20736) h

/-- The kernel's run: the result buffer holds the histograms of every image, the argument is unchanged. -/
theorem run_value (ρ : Dev nD → PrngReg) :
    θ_run defs (onTc (τ := τ) (main (F := F))) ⟨m, fun _ => 0, ρ⟩ fun r => ∀ c : Dev nD,
      r.2.mem ((c : Thread nD τ).loc main_v1)
          = shapeCast S64x20736 (stack (N := 64) (images m c)) shapeCasts_S64x48x432_S64x20736
        ∧ r.2.mem ((c : Thread nD τ).loc main_arg0) = m ((c : Thread nD τ).loc main_arg0) :=
  (θ_run defs _ _).mono (fun _ h c =>
    ⟨(Pipeline.FramePost.rest_eq h c main_v1 (by decide)).trans (tail_apply m c),
      (Pipeline.FramePost.in_eq h c 0 rfl).trans ((A_eq m c 0).trans (V_main_arg0 m c))⟩) (run_main m ρ)

end Cert.Hog.Body

end
-- ==== Proof.RefPixel.lean ====
/-
  The reference read at a pixel: the grey level, the two gradients (each a sum of nine shifted and weighted copies of
  the bordered image), the magnitude, and the angle taken between zero and a whole turn.
-/
module

public import proofs.«01_k».proof.Proof.Gen.ReferenceIdeal.Read
public import proofs.«01_k».proof.Proof.Spec
public import proofs.«01_k».proof.Proof.Angle
public import proofs.«01_k».proof.Proof.Consts
public import Idealize.ShloMosaic.Lib.ValueIdx
public import Idealize.ShloMosaic.Lib.KernelVsHost

@[expose] public section

noncomputable section

namespace Cert.Hog.Ref

open Cert.ReferenceIdeal Cert.ReferenceIdeal.Gen Cert.ReferenceIdeal.Read Idealize.ShloMosaic Idealize.ShloMosaic.TcCoe Idealize.SL.Sem
open Idealize.ShloMosaic.ValueIdx

/-- The argument: sixty-four images. -/
abbrev Images := (⟨S64x3x384x384, .f32⟩ : BufTy).Contents (Elt Ideal)

/-- Image `n`, as a picture. -/
abbrev picture (x : Images) (n : Fin 64) : Picture := fun c r s => x (ix4 n c r s)

/-- The grey level at a pixel. -/
theorem gray_apply (x : Images) (n : Fin 64) (r s : Fin 384) :
    val_main_v10 (F := Ideal) x (ix4 n 0 r s) = grayOf (picture x n) r s := by
  have h0 : idx_main_v0 (ix4 n 0 r s) = ix4 n 0 r s := by
    funext a; match a with | ⟨0, _⟩ => rfl | ⟨1, _⟩ => rfl | ⟨2, _⟩ => rfl | ⟨3, _⟩ => rfl
  have h1 : idx_main_v3 (ix4 n 0 r s) = ix4 n 1 r s := by
    funext a; match a with | ⟨0, _⟩ => rfl | ⟨1, _⟩ => rfl | ⟨2, _⟩ => rfl | ⟨3, _⟩ => rfl
  have h2 : idx_main_v7 (ix4 n 0 r s) = ix4 n 2 r s := by
    funext a; match a with | ⟨0, _⟩ => rfl | ⟨1, _⟩ => rfl | ⟨2, _⟩ => rfl | ⟨3, _⟩ => rfl
  simp only [val_main_v10_apply, val_main_v6_apply, val_main_v2_apply, val_main_v5_apply, val_main_v9_apply,
    val_main_v1_apply, val_main_v4_apply, val_main_v8_apply, val_main_v0_apply, val_main_v3_apply, val_main_v7_apply, h0, h1, h2]
  rfl

section Image

variable {x : Images} {n : Fin 64} {g : Fin 384 → Fin 384 → ℝ}
  (hg : ∀ r s, grayOf (picture x n) r s = ((g r s : ℝ) : EReal))
include hg

/-- The bordered image, shifted by `a` rows and `b` columns, at a pixel. -/
theorem tap (r s : Fin 384) (a b : ℕ) (h : S64x1x386x386.Slices ![0, 0, a, b] S64x1x384x384) (ha : a ≤ 2) (hb : b ≤ 2) :
    extractStridedSlice S64x1x384x384 ![0, 0, a, b] (val_main_v11 (F := Ideal) x) h (ix4 n 0 r s)
      = ((bordered g (r.val + a) (s.val + b) : ℝ) : EReal) := by
  rw [extractStridedSlice_apply _ _ h _
    (ix4 n 0 (⟨r.val + a, by omega⟩ : Fin 386) (⟨s.val + b, by omega⟩ : Fin 386))
    (by intro c; match c with
      | ⟨0, _⟩ => simp
      | ⟨1, _⟩ => simp
      | ⟨2, _⟩ => exact Nat.add_comm _ _
      | ⟨3, _⟩ => exact Nat.add_comm _ _)]
  unfold val_main_v11
  by_cases hi : (1 ≤ r.val + a ∧ r.val + a ≤ 384) ∧ 1 ≤ s.val + b ∧ s.val + b ≤ 384
  · rw [pad_apply_of_inside _ _ _ _ _ _ _ _
      (ix4 n 0 (⟨r.val + a - 1, by omega⟩ : Fin 384) (⟨s.val + b - 1, by omega⟩ : Fin 384))
      (by intro c; match c with
        | ⟨0, _⟩ => simp
        | ⟨1, _⟩ => simp
        | ⟨2, _⟩ => show r.val + a = 1 + (r.val + a - 1) * 1; omega
        | ⟨3, _⟩ => show s.val + b = 1 + (s.val + b - 1) * 1; omega), gray_apply, hg]
    unfold bordered
    rw [dif_pos hi]
  · have e : bordered g (r.val + a) (s.val + b) = 0 := by unfold bordered; rw [dif_neg hi]
    rw [e]
    have hz : val_main_call0_v0 (F := Ideal) (Shape.Idx.first h_S_) = ((0 : ℝ) : EReal) := by
      change (((0#32).toInt : ℝ) : EReal) = _
      simp
    by_cases hr : 1 ≤ r.val + a ∧ r.val + a ≤ 384
    · rw [pad_apply_of_not_inside _ _ _ _ _ _ _ _ (3 : Fin 4)
        (by show ¬ (1 ≤ s.val + b ∧ (s.val + b - 1) % 1 = 0 ∧ (s.val + b - 1) / 1 < 384); omega), hz]
    · rw [pad_apply_of_not_inside _ _ _ _ _ _ _ _ (2 : Fin 4)
        (by show ¬ (1 ≤ r.val + a ∧ (r.val + a - 1) % 1 = 0 ∧ (r.val + a - 1) / 1 < 384); omega), hz]

/-- The horizontal gradient at a pixel. -/
theorem gradX_apply (r s : Fin 384) :
    val_main_v48 (F := Ideal) x (ix4 n 0 r s) = ((sobelX g r s : ℝ) : EReal) := by
  have t := tap hg r s
  have e00 : val_main_v12 (F := Ideal) x (ix4 n 0 r s) = _ := t 0 0 _ (by omega) (by omega)
  have e01 : val_main_v17 (F := Ideal) x (ix4 n 0 r s) = _ := t 0 1 _ (by omega) (by omega)
  have e02 : val_main_v21 (F := Ideal) x (ix4 n 0 r s) = _ := t 0 2 _ (by omega) (by omega)
  have e10 : val_main_v25 (F := Ideal) x (ix4 n 0 r s) = _ := t 1 0 _ (by omega) (by omega)
  have e11 : val_main_v29 (F := Ideal) x (ix4 n 0 r s) = _ := t 1 1 _ (by omega) (by omega)
  have e12 : val_main_v33 (F := Ideal) x (ix4 n 0 r s) = _ := t 1 2 _ (by omega) (by omega)
  have e20 : val_main_v37 (F := Ideal) x (ix4 n 0 r s) = _ := t 2 0 _ (by omega) (by omega)
  have e21 : val_main_v41 (F := Ideal) x (ix4 n 0 r s) = _ := t 2 1 _ (by omega) (by omega)
  have e22 : val_main_v45 (F := Ideal) x (ix4 n 0 r s) = _ := t 2 2 _ (by omega) (by omega)
  change ((((((((Ideal.ofBits .f32 0x00000000#32
    + Ideal.ofBits .f32 0xBF800000#32 * val_main_v12 (F := Ideal) x (ix4 n 0 r s))
    + Ideal.ofBits .f32 0x00000000#32 * val_main_v17 (F := Ideal) x (ix4 n 0 r s))
    + Ideal.ofBits .f32 0x3F800000#32 * val_main_v21 (F := Ideal) x (ix4 n 0 r s))
    + Ideal.ofBits .f32 0xC0000000#32 * val_main_v25 (F := Ideal) x (ix4 n 0 r s))
    + Ideal.ofBits .f32 0x00000000#32 * val_main_v29 (F := Ideal) x (ix4 n 0 r s))
    + Ideal.ofBits .f32 0x40000000#32 * val_main_v33 (F := Ideal) x (ix4 n 0 r s))
    + Ideal.ofBits .f32 0xBF800000#32 * val_main_v37 (F := Ideal) x (ix4 n 0 r s))
    + Ideal.ofBits .f32 0x00000000#32 * val_main_v41 (F := Ideal) x (ix4 n 0 r s))
    + Ideal.ofBits .f32 0x3F800000#32 * val_main_v45 (F := Ideal) x (ix4 n 0 r s) = _
  rw [e00, e01, e02, e10, e11, e12, e20, e21, e22, Ideal.ofBits_zero_f32, word_one, word_neg_one, word_two, word_neg_two]
  simp only [zero_mul, zero_add, add_zero, ← EReal.coe_mul, ← EReal.coe_add]
  congr 1
  unfold sobelX
  ring

/-- The vertical gradient at a pixel. -/
theorem gradY_apply (r s : Fin 384) :
    val_main_v86 (F := Ideal) x (ix4 n 0 r s) = ((sobelY g r s : ℝ) : EReal) := by
  have t := tap hg r s
  have e00 : val_main_v50 (F := Ideal) x (ix4 n 0 r s) = _ := t 0 0 _ (by omega) (by omega)
  have e01 : val_main_v55 (F := Ideal) x (ix4 n 0 r s) = _ := t 0 1 _ (by omega) (by omega)
  have e02 : val_main_v59 (F := Ideal) x (ix4 n 0 r s) = _ := t 0 2 _ (by omega) (by omega)
  have e10 : val_main_v63 (F := Ideal) x (ix4 n 0 r s) = _ := t 1 0 _ (by omega) (by omega)
  have e11 : val_main_v67 (F := Ideal) x (ix4 n 0 r s) = _ := t 1 1 _ (by omega) (by omega)
  have e12 : val_main_v71 (F := Ideal) x (ix4 n 0 r s) = _ := t 1 2 _ (by omega) (by omega)
  have e20 : val_main_v75 (F := Ideal) x (ix4 n 0 r s) = _ := t 2 0 _ (by omega) (by omega)
  have e21 : val_main_v79 (F := Ideal) x (ix4 n 0 r s) = _ := t 2 1 _ (by omega) (by omega)
  have e22 : val_main_v83 (F := Ideal) x (ix4 n 0 r s) = _ := t 2 2 _ (by omega) (by omega)
  change ((((((((Ideal.ofBits .f32 0x00000000#32
    + Ideal.ofBits .f32 0xBF800000#32 * val_main_v50 (F := Ideal) x (ix4 n 0 r s))
    + Ideal.ofBits .f32 0xC0000000#32 * val_main_v55 (F := Ideal) x (ix4 n 0 r s))
    + Ideal.ofBits .f32 0xBF800000#32 * val_main_v59 (F := Ideal) x (ix4 n 0 r s))
    + Ideal.ofBits .f32 0x00000000#32 * val_main_v63 (F := Ideal) x (ix4 n 0 r s))
    + Ideal.ofBits .f32 0x00000000#32 * val_main_v67 (F := Ideal) x (ix4 n 0 r s))
    + Ideal.ofBits .f32 0x00000000#32 * val_main_v71 (F := Ideal) x (ix4 n 0 r s))
    + Ideal.ofBits .f32 0x3F800000#32 * val_main_v75 (F := Ideal) x (ix4 n 0 r s))
    + Ideal.ofBits .f32 0x40000000#32 * val_main_v79 (F := Ideal) x (ix4 n 0 r s))
    + Ideal.ofBits .f32 0x3F800000#32 * val_main_v83 (F := Ideal) x (ix4 n 0 r s) = _
  rw [e00, e01, e02, e10, e11, e12, e20, e21, e22, Ideal.ofBits_zero_f32, word_one, word_neg_one, word_two, word_neg_two]
  simp only [zero_mul, zero_add, add_zero, ← EReal.coe_mul, ← EReal.coe_add]
  congr 1
  unfold sobelY
  ring

/-- The magnitude at a pixel. -/
theorem mag_apply (r s : Fin 384) :
    val_main_v92 (F := Ideal) x (ix4 n 0 r s) = magnitude (sobelX g r s) (sobelY g r s) := by
  change Ideal.sqrt ((val_main_v48 (F := Ideal) x (ix4 n 0 r s) * val_main_v48 (F := Ideal) x (ix4 n 0 r s)
    + val_main_v86 (F := Ideal) x (ix4 n 0 r s) * val_main_v86 (F := Ideal) x (ix4 n 0 r s))
    + Ideal.ofBits .f32 0x358637BD#32) = _
  rw [gradX_apply hg, gradY_apply hg]
  rfl

end Image

/-- The reference's `π`: the angle of the vector `(-1, 0)`. -/
theorem pi_apply (i : S_.Idx) : val_main_v93 (F := Ideal) i = ((Real.pi : ℝ) : EReal) := by
  change Ideal.atan2 (Ideal.ofBits .f32 0x00000000#32) (Ideal.ofBits .f32 0xBF800000#32) = _
  rw [Ideal.ofBits_zero_f32, word_neg_one, ← EReal.coe_zero, atan2_coe]
  congr 1
  unfold angle
  norm_num

/-- A whole turn. -/
theorem turn_apply (i : S_.Idx) : val_main_v95 (F := Ideal) i = ((2 * Real.pi : ℝ) : EReal) := by
  change Ideal.ofBits .f32 0x40000000#32 * val_main_v93 (F := Ideal) i = _
  rw [pi_apply, word_two, EReal.coe_mul]

/-- The width of a bin. -/
theorem width_apply (i : S_.Idx) : val_main_v104 (F := Ideal) i = ((2 * Real.pi / 9 : ℝ) : EReal) := by
  change Ideal.div (Ideal.ofBits .f32 0x40000000#32 * val_main_v93 (F := Ideal) i) (Ideal.ofBits .f32 0x41100000#32) = _
  rw [pi_apply, word_two, word_nine, ← EReal.coe_mul, Ideal.div_coe (by norm_num), ← EReal.coe_mul,
    mul_one_div]

/-- The angle between zero and a whole turn, at a pixel. -/
theorem angle_apply {x : Images} {n : Fin 64} {g : Fin 384 → Fin 384 → ℝ}
    (hg : ∀ r s, grayOf (picture x n) r s = ((g r s : ℝ) : EReal)) (r s : Fin 384) :
    val_main_v96 (F := Ideal) x (ix4 n 0 r s) = ((turn (sobelY g r s) (sobelX g r s) : ℝ) : EReal) := by
  have hw : ∀ i : S_.Idx, val_main_call2_v0 (F := Ideal) i = ((2 * Real.pi : ℝ) : EReal) := turn_apply
  have hr : val_main_call2_v2 (F := Ideal) x (ix4 n 0 r s) = ((angle (sobelY g r s) (sobelX g r s) : ℝ) : EReal) := by
    rw [val_main_call2_v2_apply, val_main_call2_v1_apply, hw, val_main_v94_apply, gradX_apply hg, gradY_apply hg]
    change Ideal.remf (Ideal.atan2 _ _) _ = _
    rw [atan2_coe, remf_angle]
  have hpi : (0 : ℝ) < 2 * Real.pi := by have := Real.pi_pos; linarith
  simp only [val_main_v96_apply, val_main_call2_v10_apply, val_main_call2_v12_apply, val_main_call2_v9_apply,
    val_main_call2_v4_apply, val_main_call2_v6_apply, val_main_call2_v8_apply, val_main_call2_v7_apply,
    val_main_call2_v3_apply, val_main_call2_v5_apply, val_main_call2_v11_apply, val_main_call2_cst_apply,
    val_main_call2_cst_0_apply, val_main_call2_cst_1_apply, hr, hw]
  unfold turn
  generalize angle (sobelY g r s) (sobelX g r s) = t
  change Scalar.select (IntOp.andi (IntOp.cmpi .ne (Ideal.cmp .olt (t : EReal) (Ideal.ofBits .f32 0x00000000#32))
    (Ideal.cmp .olt ((2 * Real.pi : ℝ) : EReal) (Ideal.ofBits .f32 0x00000000#32)))
    (Ideal.cmp .une (t : EReal) (Ideal.ofBits .f32 0x00000000#32))) ((t : EReal) + ((2 * Real.pi : ℝ) : EReal)) (t : EReal) = _
  rw [Ideal.ofBits_zero_f32]
  have h2 : ¬ ((2 * Real.pi : ℝ) : EReal) < 0 := by rw [not_lt]; exact_mod_cast hpi.le
  by_cases h : t < 0
  · have h1 : ((t : ℝ) : EReal) < 0 := by exact_mod_cast h
    have h3 : ((t : ℝ) : EReal) ≠ 0 := h1.ne
    simp only [Ideal.cmp, h1, h2, h3, ne_eq, not_false_eq_true, decide_true, decide_false, if_pos h]
    rw [EReal.coe_add]
    rfl
  · have h1 : ¬ ((t : ℝ) : EReal) < 0 := by rw [not_lt]; exact_mod_cast not_lt.mp h
    simp only [Ideal.cmp, h1, h2, decide_false, if_neg h]
    generalize BitVec.ofBool (decide ((t : EReal) ≠ 0)) = b
    have : IntOp.andi (IntOp.cmpi .ne (BitVec.ofBool false) (BitVec.ofBool false)) b = 0#1 := by
      simp [IntOp.andi, IntOp.cmpi]
    rw [this, select_zero]

end Cert.Hog.Ref

end
-- ==== Proof.RefHist.lean ====
/-
  The reference read at an index of its result: the cells' pixels laid out in rows, each pixel's bin, the histograms
  as sums over the sixty-four pixels of a cell, and the quotient by the norm.
-/
module

public import proofs.«01_k».proof.Proof.RefPixel

@[expose] public section

noncomputable section

namespace Cert.Hog.Ref

open Cert.ReferenceIdeal Cert.ReferenceIdeal.Gen Cert.ReferenceIdeal.Read Idealize.ShloMosaic Idealize.ShloMosaic.TcCoe
open Idealize.SL.Sem Idealize.ShloMosaic.ValueIdx

/-- The row that holds cell `(i, j)` of image `n`. -/
def cellRow (n : Fin 64) (i j : Fin 48) : Fin 147456 := ⟨n.val * 2304 + i.val * 48 + j.val, by omega⟩

/-- The column that holds a cell's pixel `(a, c)`. -/
def pixelCol (a c : Fin 8) : Fin 64 := ⟨a.val * 8 + c.val, by omega⟩

/-- The five coordinates of a row and a column. -/
theorem split_idx (n : Fin 64) (i j : Fin 48) (a c : Fin 8) :
    idx_main_v99 (ix2 (cellRow n i j) (pixelCol a c)) = ix5 n i j a c := by
  funext d
  match d with
  | ⟨0, _⟩ =>
    refine Fin.ext ?_
    show ((n.val * 2304 + i.val * 48 + j.val) * 64 + (a.val * 8 + c.val)) / 147456 = n.val
    omega
  | ⟨1, _⟩ =>
    refine Fin.ext ?_
    show ((n.val * 2304 + i.val * 48 + j.val) * 64 + (a.val * 8 + c.val)) / 3072 % 48 = i.val
    omega
  | ⟨2, _⟩ =>
    refine Fin.ext ?_
    show ((n.val * 2304 + i.val * 48 + j.val) * 64 + (a.val * 8 + c.val)) / 64 % 48 = j.val
    omega
  | ⟨3, _⟩ =>
    refine Fin.ext ?_
    show ((n.val * 2304 + i.val * 48 + j.val) * 64 + (a.val * 8 + c.val)) / 8 % 8 = a.val
    omega
  | ⟨4, _⟩ =>
    refine Fin.ext ?_
    show ((n.val * 2304 + i.val * 48 + j.val) * 64 + (a.val * 8 + c.val)) % 8 = c.val
    omega

/-- Cell column and pixel row exchanged. -/
theorem swap_idx (n : Fin 64) (i j : Fin 48) (a c : Fin 8) : idx_main_v98 (ix5 n i j a c) = ix5 n i a j c := by
  funext d
  match d with
  | ⟨0, _⟩ => rfl
  | ⟨1, _⟩ => rfl
  | ⟨2, _⟩ => rfl
  | ⟨3, _⟩ => rfl
  | ⟨4, _⟩ => rfl

/-- The pixel of the image that five coordinates stand for. -/
theorem join_idx (n : Fin 64) (i j : Fin 48) (a c : Fin 8) :
    idx_main_v97 (ix5 n i a j c) = ix4 n 0 (inCell i a) (inCell j c) := by
  funext d
  match d with
  | ⟨0, _⟩ =>
    refine Fin.ext ?_
    show ((((n.val * 48 + i.val) * 8 + a.val) * 48 + j.val) * 8 + c.val) / 147456 = n.val
    omega
  | ⟨1, _⟩ => rfl
  | ⟨2, _⟩ =>
    refine Fin.ext ?_
    show ((((n.val * 48 + i.val) * 8 + a.val) * 48 + j.val) * 8 + c.val) / 384 % 384 = 8 * i.val + a.val
    omega
  | ⟨3, _⟩ =>
    refine Fin.ext ?_
    show ((((n.val * 48 + i.val) * 8 + a.val) * 48 + j.val) * 8 + c.val) % 384 = 8 * j.val + c.val
    omega

/-- A sum over a cell's sixty-four pixels is a sum over its rows and columns. -/
theorem sum_pixels (f : Fin 64 → EReal) : ∑ k : Fin 64, f k = ∑ a : Fin 8, ∑ c : Fin 8, f (pixelCol a c) := by
  rw [← Equiv.sum_comp (finProdFinEquiv (m := 8) (n := 8)) f, Fintype.sum_prod_type]
  refine Finset.sum_congr rfl fun a _ => Finset.sum_congr rfl fun c _ => congrArg f (Fin.ext ?_)
  rw [finProdFinEquiv_apply_val]
  simp [pixelCol]
  omega

/-- The place of histogram value `(i, J)` in an image's row of the result. -/
def place (i : Fin 48) (J : Fin 432) : Fin 20736 := ⟨i.val * 432 + J.val, by omega⟩

/-- A sum over an image's row of the result is a sum over the cells' rows and what each holds. -/
theorem sum_places (f : Fin 20736 → EReal) : ∑ k : Fin 20736, f k = ∑ i : Fin 48, ∑ J : Fin 432, f (place i J) := by
  rw [← Equiv.sum_comp (finProdFinEquiv (m := 48) (n := 432)) f, Fintype.sum_prod_type]
  refine Finset.sum_congr rfl fun a _ => Finset.sum_congr rfl fun c _ => congrArg f (Fin.ext ?_)
  rw [finProdFinEquiv_apply_val]
  simp [place]
  omega

/-- Taking the remainder by nine leaves a bin's number. -/
theorem remainder_bin : ∀ m : Fin 9,
    (let w := BitVec.ofNat 32 m.val
     let y := Scalar.select (IntOp.cmpi .eq 9#32 0#32) 1#32 9#32
     let q := IntOp.remsi .host w y
     Scalar.select (IntOp.andi (IntOp.cmpi .ne (IntOp.cmpi .slt q 0#32) (IntOp.cmpi .slt y 0#32)) (IntOp.cmpi .ne q 0#32))
       (IntOp.addi q y) q) = BitVec.ofNat 32 m.val := by
  decide +kernel

section Image

variable {x : Images} {n : Fin 64} {g : Fin 384 → Fin 384 → ℝ}
  (hg : ∀ r s, grayOf (picture x n) r s = ((g r s : ℝ) : EReal))
include hg

/-- The magnitude of a cell's pixel. -/
theorem cellMag_apply (i j : Fin 48) (a c : Fin 8) :
    val_main_v99 (F := Ideal) x (ix2 (cellRow n i j) (pixelCol a c))
      = magnitude (sobelX g (inCell i a) (inCell j c)) (sobelY g (inCell i a) (inCell j c)) := by
  rw [val_main_v99_apply, val_main_v98_apply, val_main_v97_apply, split_idx, swap_idx, join_idx, mag_apply hg]

/-- The angle of a cell's pixel. -/
theorem cellAngle_apply (i j : Fin 48) (a c : Fin 8) :
    val_main_v102 (F := Ideal) x (ix2 (cellRow n i j) (pixelCol a c))
      = ((turn (sobelY g (inCell i a) (inCell j c)) (sobelX g (inCell i a) (inCell j c)) : ℝ) : EReal) := by
  rw [val_main_v102_apply, val_main_v101_apply, val_main_v100_apply, ← angle_apply hg]
  refine congrArg _ ?_
  exact (congrArg (fun t => idx_main_v97 (idx_main_v98 t)) (split_idx n i j a c)).trans
    ((congrArg idx_main_v97 (swap_idx n i j a c)).trans (join_idx n i j a c))

/-- The bin of a cell's pixel, as a word. -/
theorem cellBin_apply (i j : Fin 48) (a c : Fin 8) :
    val_main_v109 (F := Ideal) x (ix2 (cellRow n i j) (pixelCol a c))
      = BitVec.ofInt 32 (bin (sobelX g (inCell i a) (inCell j c)) (sobelY g (inCell i a) (inCell j c))) := by
  have hw : val_main_v108 (F := Ideal) x (ix2 (cellRow n i j) (pixelCol a c))
      = BitVec.ofInt 32 (bin (sobelX g (inCell i a) (inCell j c)) (sobelY g (inCell i a) (inCell j c))) := by
    have h6 : ∀ k, val_main_v106 (F := Ideal) k = ((2 * Real.pi / 9 : ℝ) : EReal) := fun k => by
      rw [val_main_v106_apply]; exact width_apply _
    have hp := Real.pi_pos
    rw [val_main_v108_apply, val_main_v107_apply, cellAngle_apply hg, h6, ← fptosi_turn]
    change Ideal.fptosi 32 (Ideal.div _ _) = _
    rw [Ideal.div_coe (by positivity), ← EReal.coe_mul, mul_one_div]
  simp only [val_main_v109_apply, val_main_call3_v14_apply, val_main_call3_v12_apply, val_main_call3_v11_apply,
    val_main_call3_v8_apply, val_main_call3_v6_apply, val_main_call3_v4_apply, val_main_call3_v3_apply,
    val_main_call3_v5_apply, val_main_call3_v7_apply, val_main_call3_v10_apply, val_main_call3_v13_apply,
    val_main_call3_v9_apply, val_main_call3_v2_apply, val_main_call3_v1_apply, val_main_call3_v0_apply, hw]
  generalize sobelX g (inCell i a) (inCell j c) = gx
  generalize sobelY g (inCell i a) (inCell j c) = gy
  obtain ⟨h0, h9⟩ := bin_mem gx gy
  obtain ⟨k, hk⟩ := Int.eq_ofNat_of_zero_le h0
  have hk9 : k < 9 := by omega
  rw [hk]
  exact remainder_bin ⟨k, hk9⟩

/-- What a cell's pixel adds to bin `b`. -/
theorem masked_apply (i j : Fin 48) (a c : Fin 8) (b : Fin 9) :
    val_main_v117 (F := Ideal) x (ix3 (cellRow n i j) (pixelCol a c) b) = share g b.val (inCell i a) (inCell j c) := by
  have e1 : idx_main_v110 (idx_main_v113 (ix3 (cellRow n i j) (pixelCol a c) b)) = ix2 (cellRow n i j) (pixelCol a c) := by
    funext d; match d with | ⟨0, _⟩ => rfl | ⟨1, _⟩ => rfl
  have e2 : idx_main_v116 (idx_main_call4_v1 (ix3 (cellRow n i j) (pixelCol a c) b))
      = ix2 (cellRow n i j) (pixelCol a c) := by
    funext d; match d with | ⟨0, _⟩ => rfl | ⟨1, _⟩ => rfl
  have hb : val_main_v114 (F := Ideal) (ix3 (cellRow n i j) (pixelCol a c) b) = BitVec.ofNat 32 b.val := by
    rw [val_main_v114_apply, val_main_v112_apply]; rfl
  have hz : ∀ k, val_main_call4_v2 (F := Ideal) k = 0 := fun k => by
    rw [val_main_call4_v2_apply]; exact Ideal.ofBits_zero_f32
  rw [val_main_v117_apply, val_main_v115_apply, val_main_v113_apply, val_main_v110_apply, val_main_call4_v1_apply,
    val_main_v116_apply, e1, e2, hb, hz, cellBin_apply hg, cellMag_apply hg]
  unfold share
  generalize sobelX g (inCell i a) (inCell j c) = gx
  generalize sobelY g (inCell i a) (inCell j c) = gy
  obtain ⟨h0, h9⟩ := bin_mem gx gy
  obtain ⟨k, hk⟩ := Int.eq_ofNat_of_zero_le h0
  have hk9 : k < 9 := by omega
  have hb9 := b.isLt
  rw [hk]
  have hw : ∀ k b : Fin 9, IntOp.cmpi .eq (BitVec.ofNat 32 k.val) (BitVec.ofNat 32 b.val)
      = BitVec.ofBool (decide (k.val = b.val)) := by decide +kernel
  have hwk : IntOp.cmpi .eq (BitVec.ofInt 32 (k : ℤ)) (BitVec.ofNat 32 b.val) = BitVec.ofBool (decide (k = b.val)) :=
    hw ⟨k, hk9⟩ b
  rw [hwk]
  by_cases h : k = b.val
  · rw [if_pos (by exact_mod_cast h), decide_eq_true h]; exact select_one _ _
  · rw [if_neg (by exact_mod_cast h), decide_eq_false h]; exact select_zero _ _

/-- The histograms. -/
theorem hist_apply (i : Fin 48) (J : Fin 432) :
    val_main_v119 (F := Ideal) x (ix2 n (place i J)) = entry g i J := by
  have e : idx_main_v119 (ix2 n (place i J))
      = ix2 (cellRow n i ⟨J.val / 9, by omega⟩) (⟨J.val % 9, by omega⟩ : Fin 9) := by
    funext d
    match d with
    | ⟨0, _⟩ =>
      refine Fin.ext ?_
      show (n.val * 20736 + (i.val * 432 + J.val)) / 9 = n.val * 2304 + i.val * 48 + J.val / 9
      omega
    | ⟨1, _⟩ =>
      refine Fin.ext ?_
      show (n.val * 20736 + (i.val * 432 + J.val)) % 9 = J.val % 9
      omega
  have hz : val_main_cst_31 (F := Ideal) (Shape.Idx.first h_S_) = 0 := Ideal.ofBits_zero_f32
  rw [val_main_v119_apply, e, val_main_v118_apply, hz, zero_add, sum_pixels]
  unfold entry cell
  refine Finset.sum_congr rfl fun a _ => Finset.sum_congr rfl fun c _ => ?_
  rw [← masked_apply hg _ _ a c ⟨J.val % 9, by omega⟩]
  refine congrArg _ ?_
  funext d
  match d with
  | ⟨0, _⟩ => rfl
  | ⟨1, _⟩ => rfl
  | ⟨2, _⟩ => rfl

/-- The reference's result for an image whose grey levels are real numbers is its descriptor. -/
theorem result_apply (i : Fin 48) (J : Fin 432) :
    val_main_v124 (F := Ideal) x (ix2 n (place i J)) = descriptor g i J := by
  have hz : val_main_call5_cst (F := Ideal) (Shape.Idx.first h_S_) = 0 := Ideal.ofBits_zero_f32
  have he : ∀ k : S64.Idx, k = ix1 n → val_main_call5_v1 (F := Ideal) x k = energy g := by
    rintro k rfl
    rw [val_main_call5_v1_apply, hz, zero_add, sum_places]
    unfold energy
    refine Finset.sum_congr rfl fun i' _ => Finset.sum_congr rfl fun J' _ => ?_
    have e : idx_main_call5_v1 (ix1 n) (place i' J') = ix2 n (place i' J') := by
      funext d; match d with | ⟨0, _⟩ => rfl | ⟨1, _⟩ => rfl
    rw [e, val_main_call5_v0_apply, hist_apply hg]
    rfl
  rw [val_main_v124_apply, hist_apply hg, val_main_v123_apply, val_main_v122_apply, val_main_v120_apply,
    val_main_v121_apply, val_main_call5_v2_apply, he _ (by funext d; match d with | ⟨0, _⟩ => rfl)]
  rfl

end Image

end Cert.Hog.Ref

end
-- ==== Proof.Final.lean ====
/-
  The two programs at the ideal instance: of finite images the kernel and the reference compute the same descriptors.
-/
module

public import proofs.«01_k».proof.Proof.Hist
public import proofs.«01_k».proof.Proof.Array
public import proofs.«01_k».proof.Proof.RefHist
public import proofs.«01_k».proof.Defs
public import proofs.«01_k».proof.Proof.Gen.Pre_finite

@[expose] public section

noncomputable section

namespace Cert.Hog

open Idealize.ShloMosaic Idealize.ShloMosaic.TcCoe Idealize.SL.Sem

/-- Where the predicate holds, every value of the images is a real number. -/
theorem real_of_finite (x : Ref.Images) (hx : Cert.Pre_finite.fn (F := Ideal) x = fun _ => 1#1)
    (k : Cert.ReferenceIdeal.S64x3x384x384.Idx) : ∃ v : ℝ, x k = (v : EReal) := by
  have h : Ideal.cmp .olt (max (x k) (-x k)) (Ideal.ofBits .f32 0x7F800000#32) = 1#1 := congrFun hx k
  have hlt : max (x k) (-x k) < Ideal.ofBits .f32 0x7F800000#32 := by
    by_contra hn
    simp [Ideal.cmp, hn] at h
  have ht : max (x k) (-x k) < ⊤ := lt_of_lt_of_le hlt le_top
  obtain ⟨h1, h2⟩ := max_lt_iff.mp ht
  induction hv : x k using EReal.rec with
  | bot => rw [hv] at h2; simp at h2
  | coe v => exact ⟨v, rfl⟩
  | top => rw [hv] at h1; simp at h1

/-- Then so is every grey level. -/
theorem gray_real (x : Ref.Images) (hx : Cert.Pre_finite.fn (F := Ideal) x = fun _ => 1#1) (n : Fin 64) :
    ∃ g : Fin 384 → Fin 384 → ℝ, ∀ r s, grayOf (Ref.picture x n) r s = ((g r s : ℝ) : EReal) := by
  have h : ∀ r s, ∃ v : ℝ, grayOf (Ref.picture x n) r s = (v : EReal) := by
    intro r s
    obtain ⟨c0, h0⟩ := word_real 0x3E99096C#32 (by decide)
    obtain ⟨c1, h1⟩ := word_real 0x3F1645A2#32 (by decide)
    obtain ⟨c2, h2⟩ := word_real 0x3DE978D5#32 (by decide)
    obtain ⟨v0, e0⟩ := real_of_finite x hx (ValueIdx.ix4 n 0 r s)
    obtain ⟨v1, e1⟩ := real_of_finite x hx (ValueIdx.ix4 n 1 r s)
    obtain ⟨v2, e2⟩ := real_of_finite x hx (ValueIdx.ix4 n 2 r s)
    refine ⟨c0 * v0 + c1 * v1 + c2 * v2, ?_⟩
    unfold grayOf Ref.picture
    rw [h0, h1, h2, e0, e1, e2]
    push_cast
    rfl
  choose g hg using h
  exact ⟨g, hg⟩

/-- Of finite images, the kernel's result and the reference's are equal, index by index. -/
theorem values_agree (x : Ref.Images) (hx : Cert.Pre_finite.fn (F := Ideal) x = fun _ => 1#1) :
    (shapeCast Cert.KernelIdeal.S64x20736 (Body.stack (F := Ideal) (N := 64) x)
        Cert.KernelIdeal.Gen.facts.shapeCasts_S64x48x432_S64x20736 : Cert.KernelIdeal.S64x20736.Idx → EReal)
      = Cert.ReferenceIdeal.Read.val_main_v124 (F := Ideal) x := by
  funext k
  obtain ⟨n, K, rfl⟩ : ∃ (n : Fin 64) (K : Fin 20736), k = ValueIdx.ix2 n K := ⟨k 0, k 1, ValueIdx.eq_ix2 k⟩
  obtain ⟨i, J, rfl⟩ : ∃ (i : Fin 48) (J : Fin 432), K = Ref.place i J :=
    ⟨⟨K.val / 432, by omega⟩, ⟨K.val % 432, by omega⟩, Fin.ext (by simp only [Ref.place]; omega)⟩
  obtain ⟨g, hg⟩ := gray_real x hx n
  rw [Ref.result_apply hg i J]
  refine (shapeCast_apply _ _ _ (ValueIdx.ix3 n i J) ?_).trans ?_
  · rw [Shape.rowMajor_val_three, Shape.rowMajor_val_two]
    show (n.val * 48 + i.val) * 432 + J.val = n.val * 20736 + (i.val * 432 + J.val)
    omega
  · exact Body.body_apply (Body.slab (N := 64) x n) g hg i J

end Cert.Hog

end
-- ==== Proof.lean ====
/-
  The certificate: the two frames of the kernel, the frame of the reference, the named constant, and the equality of the
  kernel's and the reference's results on finite images.
-/
module

public import proofs.«01_k».proof.Proof.Final
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The kernel and the reference, from memories that agree on the images, both run and leave the same descriptors. -/
theorem algebraic : Cert.algebraic_KernelIdeal_ReferenceIdeal_pre_finite := by
  intro m g m' g' hpre hagree
  refine ⟨_, Cert.Hog.Body.run_value m g, (θ_run _ _ _).mono (fun r h c => ⟨?_, (h c).2⟩)
    (Cert.ReferenceIdeal.Value.run (F := Ideal) m' g')⟩
  refine ((h c).1.trans (Cert.ReferenceIdeal.Read.val_main_v124_eq _)).trans ?_
  have e := hagree c
  refine (congrArg (Cert.ReferenceIdeal.Read.val_main_v124 (F := Ideal)) e).trans ?_
  exact (Cert.Hog.values_agree _ (hpre c)).symm

/-- The reference runs from any memory, leaves the images as they were, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run (F := Ideal) m ρ)

/-- The whole claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "bins_per_radian" .f32 0x3FB758B4#32
      (((9 / 2) * Real.pi⁻¹ : ℝ) : EReal) rfl,
    algebraic⟩

end Cert.Proof

end
